-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "log2" .f32 0x3F317218#32 ((Real.log 2 : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S128x32x3 : Shape := ⟨3, ![128, 32, 3]⟩
abbrev S128x32 : Shape := ⟨2, ![128, 32]⟩
abbrev S2x100x64 : Shape := ⟨3, ![2, 100, 64]⟩
abbrev S2x2x25x64 : Shape := ⟨4, ![2, 2, 25, 64]⟩
abbrev S2x2x64 : Shape := ⟨3, ![2, 2, 64]⟩
abbrev S2x2x64x64 : Shape := ⟨4, ![2, 2, 64, 64]⟩
abbrev S2x64x32 : Shape := ⟨3, ![2, 64, 32]⟩
abbrev S2x32 : Shape := ⟨2, ![2, 32]⟩
abbrev S2x32x1 : Shape := ⟨3, ![2, 32, 1]⟩
abbrev S2x1 : Shape := ⟨2, ![2, 1]⟩
abbrev S_ : Shape := ⟨0, ![]⟩

class Facts : Prop where
  bcast_S_S128x32 : S_.BroadcastsInDim S128x32 (![] : Fin 0 → Fin S128x32.rank)
  reducesTo_S128x32_S_d0_1 : S128x32.ReducesTo [0, 1] S_
  h_S_ : 0 < S_.numel
  bcast_S_S2x2x64 : S_.BroadcastsInDim S2x2x64 (![] : Fin 0 → Fin S2x2x64.rank)
  reducesTo_S2x2x64_S_d0_1_2 : S2x2x64.ReducesTo [0, 1, 2] S_
  bcast_S_S2x32 : S_.BroadcastsInDim S2x32 (![] : Fin 0 → Fin S2x32.rank)
  reducesTo_S2x32_S_d0_1 : S2x32.ReducesTo [0, 1] S_
  bcast_S_S2x1 : S_.BroadcastsInDim S2x1 (![] : Fin 0 → Fin S2x1.rank)
  reducesTo_S2x1_S_d0_1 : S2x1.ReducesTo [0, 1] S_

variable [Facts]

def fn_part1 {F : FTy → Type} [FloatOps F] (main_arg12 : FVec F S2x2x64 .f32) (main_arg14 : FVec F S2x32 .f32) (main_arg16 : FVec F S2x1 .f32) (main_v13 : IVec S_ 1) (main_v15 : IVec S2x2x64 1) : IVec S_ 1 :=
  let main_c_6 : IVec S_ 1 := constantI S_ 1 1#1
  let main_v16 : IVec S_ 1 := (fun x v => Host.reduce IntOp.andi x v reducesTo_S2x2x64_S_d0_1_2 h_S_) main_v15 main_c_6
  let main_v17 : IVec S_ 1 := andi main_v13 main_v16
  let main_cst_7 : FVec F S_ .f32 := constant S_ .f32 0x00000000#32
  let main_v18 : FVec F S2x2x64 .f32 := broadcastInDim S2x2x64 ![] bcast_S_S2x2x64 main_cst_7
  let main_v19 : IVec S2x2x64 1 := cmpf .oeq main_arg12 main_v18
  let main_c_8 : IVec S_ 1 := constantI S_ 1 1#1
  let main_v20 : IVec S_ 1 := (fun x v => Host.reduce IntOp.andi x v reducesTo_S2x2x64_S_d0_1_2 h_S_) main_v19 main_c_8
  let main_v21 : IVec S_ 1 := andi main_v17 main_v20
  let main_cst_9 : FVec F S_ .f32 := constant S_ .f32 0x00000000#32
  let main_v22 : FVec F S2x32 .f32 := broadcastInDim S2x32 ![] bcast_S_S2x32 main_cst_9
  let main_v23 : IVec S2x32 1 := cmpf .oeq main_arg14 main_v22
  let main_c_10 : IVec S_ 1 := constantI S_ 1 1#1
  let main_v24 : IVec S_ 1 := (fun x v => Host.reduce IntOp.andi x v reducesTo_S2x32_S_d0_1 h_S_) main_v23 main_c_10
  let main_v25 : IVec S_ 1 := andi main_v21 main_v24
  let main_v26 : FVec F S2x1 .f32 := Host.absf main_arg16
  let main_cst_11 : FVec F S_ .f32 := constant S_ .f32 0x7F800000#32
  let main_v27 : FVec F S2x1 .f32 := broadcastInDim S2x1 ![] bcast_S_S2x1 main_cst_11
  let main_v28 : IVec S2x1 1 := cmpf .olt main_v26 main_v27
  let main_c_12 : IVec S_ 1 := constantI S_ 1 1#1
  let main_v29 : IVec S_ 1 := (fun x v => Host.reduce IntOp.andi x v reducesTo_S2x1_S_d0_1 h_S_) main_v28 main_c_12
  let main_v30 : IVec S_ 1 := andi main_v25 main_v29
  main_v30

def fn {F : FTy → Type} [FloatOps F] (main_arg0 : FVec F S128x32x3 .f32) (main_arg1 : FVec F S128x32x3 .f32) (main_arg2 : IVec S128x32 32) (main_arg3 : FVec F S2x100x64 .f32) (main_arg4 : FVec F S2x2x25x64 .f32) (main_arg5 : FVec F S2x2x64 .f32) (main_arg6 : FVec F S2x2x64x64 .f32) (main_arg7 : FVec F S2x2x64 .f32) (main_arg8 : FVec F S2x2x64x64 .f32) (main_arg9 : FVec F S2x2x64x64 .f32) (main_arg10 : FVec F S2x2x64 .f32) (main_arg11 : FVec F S2x2x64x64 .f32) (main_arg12 : FVec F S2x2x64 .f32) (main_arg13 : FVec F S2x64x32 .f32) (main_arg14 : FVec F S2x32 .f32) (main_arg15 : FVec F S2x32x1 .f32) (main_arg16 : FVec F S2x1 .f32) : IVec S_ 1 :=
  let main_c : IVec S_ 32 := constantI S_ 32 0#32
  let main_v0 : IVec S128x32 32 := broadcastInDim S128x32 ![] bcast_S_S128x32 main_c
  let main_v1 : IVec S128x32 1 := cmpi .sge main_arg2 main_v0
  let main_c_0 : IVec S_ 32 := constantI S_ 32 100#32
  let main_v2 : IVec S128x32 32 := broadcastInDim S128x32 ![] bcast_S_S128x32 main_c_0
  let main_v3 : IVec S128x32 1 := cmpi .slt main_arg2 main_v2
  let main_v4 : IVec S128x32 1 := andi main_v1 main_v3
  let main_c_1 : IVec S_ 1 := constantI S_ 1 1#1
  let main_v5 : IVec S_ 1 := (fun x v => Host.reduce IntOp.andi x v reducesTo_S128x32_S_d0_1 h_S_) main_v4 main_c_1
  let main_cst : FVec F S_ .f32 := constant S_ .f32 0x00000000#32
  let main_v6 : FVec F S2x2x64 .f32 := broadcastInDim S2x2x64 ![] bcast_S_S2x2x64 main_cst
  let main_v7 : IVec S2x2x64 1 := cmpf .oeq main_arg5 main_v6
  let main_c_2 : IVec S_ 1 := constantI S_ 1 1#1
  let main_v8 : IVec S_ 1 := (fun x v => Host.reduce IntOp.andi x v reducesTo_S2x2x64_S_d0_1_2 h_S_) main_v7 main_c_2
  let main_v9 : IVec S_ 1 := andi main_v5 main_v8
  let main_cst_3 : FVec F S_ .f32 := constant S_ .f32 0x00000000#32
  let main_v10 : FVec F S2x2x64 .f32 := broadcastInDim S2x2x64 ![] bcast_S_S2x2x64 main_cst_3
  let main_v11 : IVec S2x2x64 1 := cmpf .oeq main_arg7 main_v10
  let main_c_4 : IVec S_ 1 := constantI S_ 1 1#1
  let main_v12 : IVec S_ 1 := (fun x v => Host.reduce IntOp.andi x v reducesTo_S2x2x64_S_d0_1_2 h_S_) main_v11 main_c_4
  let main_v13 : IVec S_ 1 := andi main_v9 main_v12
  let main_cst_5 : FVec F S_ .f32 := constant S_ .f32 0x00000000#32
  let main_v14 : FVec F S2x2x64 .f32 := broadcastInDim S2x2x64 ![] bcast_S_S2x2x64 main_cst_5
  let main_v15 : IVec S2x2x64 1 := cmpf .oeq main_arg10 main_v14
  fn_part1 (F := F) main_arg12 main_arg14 main_arg16 main_v13 main_v15
-- ==== Kernel.lean ====
abbrev S128x32x3 : Shape := ⟨3, ![128, 32, 3]⟩
abbrev S128x32 : Shape := ⟨2, ![128, 32]⟩
abbrev S2x100x64 : Shape := ⟨3, ![2, 100, 64]⟩
abbrev S2x2x25x64 : Shape := ⟨4, ![2, 2, 25, 64]⟩
abbrev S2x2x64 : Shape := ⟨3, ![2, 2, 64]⟩
abbrev S2x2x64x64 : Shape := ⟨4, ![2, 2, 64, 64]⟩
abbrev S2x64x32 : Shape := ⟨3, ![2, 64, 32]⟩
abbrev S2x32 : Shape := ⟨2, ![2, 32]⟩
abbrev S2x32x1 : Shape := ⟨3, ![2, 32, 1]⟩
abbrev S2x1 : Shape := ⟨2, ![2, 1]⟩
abbrev S1x128x32x3 : Shape := ⟨4, ![1, 128, 32, 3]⟩
abbrev S2x128x32x3 : Shape := ⟨4, ![2, 128, 32, 3]⟩
abbrev S2x128x3x32 : Shape := ⟨4, ![2, 128, 3, 32]⟩
abbrev S_ : Shape := ⟨0, ![]⟩
abbrev S2x128x64 : Shape := ⟨3, ![2, 128, 64]⟩
abbrev S1 : Shape := ⟨1, ![1]⟩
abbrev S2x2x32x64 : Shape := ⟨4, ![2, 2, 32, 64]⟩
abbrev S24 : Shape := ⟨1, ![24]⟩
abbrev S25 : Shape := ⟨1, ![25]⟩
abbrev S1x32 : Shape := ⟨2, ![1, 32]⟩
abbrev S2 : Shape := ⟨1, ![2]⟩
abbrev S1x1 : Shape := ⟨2, ![1, 1]⟩
abbrev S2x1x32x64 : Shape := ⟨4, ![2, 1, 32, 64]⟩
abbrev S2x32x64 : Shape := ⟨3, ![2, 32, 64]⟩
abbrev S2x32x128 : Shape := ⟨3, ![2, 32, 128]⟩
abbrev S2x128x128 : Shape := ⟨3, ![2, 128, 128]⟩
abbrev S2x1x64x64 : Shape := ⟨4, ![2, 1, 64, 64]⟩
abbrev S2x64x64 : Shape := ⟨3, ![2, 64, 64]⟩
abbrev S2x64x128 : Shape := ⟨3, ![2, 64, 128]⟩
abbrev S2x1x64x128 : Shape := ⟨4, ![2, 1, 64, 128]⟩
abbrev S2x2x64x128 : Shape := ⟨4, ![2, 2, 64, 128]⟩
abbrev S2x1x128x64 : Shape := ⟨4, ![2, 1, 128, 64]⟩
abbrev S2x2x128x64 : Shape := ⟨4, ![2, 2, 128, 64]⟩
abbrev S2x16x8x1 : Shape := ⟨4, ![2, 16, 8, 1]⟩
abbrev S2x8x3x32 : Shape := ⟨4, ![2, 8, 3, 32]⟩
abbrev S8x32 : Shape := ⟨2, ![8, 32]⟩
abbrev S1x128x64 : Shape := ⟨3, ![1, 128, 64]⟩
abbrev S1x32x128 : Shape := ⟨3, ![1, 32, 128]⟩
abbrev S1x128x128 : Shape := ⟨3, ![1, 128, 128]⟩
abbrev S1x2x64x128 : Shape := ⟨4, ![1, 2, 64, 128]⟩
abbrev S1x2x128x64 : Shape := ⟨4, ![1, 2, 128, 64]⟩
abbrev S1x2x64x64 : Shape := ⟨4, ![1, 2, 64, 64]⟩
abbrev S1x64x32 : Shape := ⟨3, ![1, 64, 32]⟩
abbrev S1x32x1 : Shape := ⟨3, ![1, 32, 1]⟩
abbrev S1x1x8x1 : Shape := ⟨4, ![1, 1, 8, 1]⟩
abbrev S8x32x1 : Shape := ⟨3, ![8, 32, 1]⟩
abbrev S8x32x128 : Shape := ⟨3, ![8, 32, 128]⟩
abbrev S256x128 : Shape := ⟨2, ![256, 128]⟩
abbrev S128x64 : Shape := ⟨2, ![128, 64]⟩
abbrev S256x64 : Shape := ⟨2, ![256, 64]⟩
abbrev S512x64 : Shape := ⟨2, ![512, 64]⟩
abbrev S1x1x1x32 : Shape := ⟨4, ![1, 1, 1, 32]⟩
abbrev S1x32x32 : Shape := ⟨3, ![1, 32, 32]⟩
abbrev S2x8x1x32 : Shape := ⟨4, ![2, 8, 1, 32]⟩
abbrev S2x8x32 : Shape := ⟨3, ![2, 8, 32]⟩
abbrev S16x32 : Shape := ⟨2, ![16, 32]⟩
abbrev S16x32x1 : Shape := ⟨3, ![16, 32, 1]⟩
abbrev S16x32x32 : Shape := ⟨3, ![16, 32, 32]⟩
abbrev S16x1x32 : Shape := ⟨3, ![16, 1, 32]⟩
abbrev S16x32x32x1 : Shape := ⟨4, ![16, 32, 32, 1]⟩
abbrev S16x32x32x32 : Shape := ⟨4, ![16, 32, 32, 32]⟩
abbrev S16384x32 : Shape := ⟨2, ![16384, 32]⟩
abbrev S32x128 : Shape := ⟨2, ![32, 128]⟩
abbrev S16384x128 : Shape := ⟨2, ![16384, 128]⟩
abbrev S128x128 : Shape := ⟨2, ![128, 128]⟩
abbrev S16x32x32x128 : Shape := ⟨4, ![16, 32, 32, 128]⟩
abbrev S1x1x64x128 : Shape := ⟨4, ![1, 1, 64, 128]⟩
abbrev S64x128 : Shape := ⟨2, ![64, 128]⟩
abbrev S512x128 : Shape := ⟨2, ![512, 128]⟩
abbrev S16x32x128 : Shape := ⟨3, ![16, 32, 128]⟩
abbrev S16x1x32x128 : Shape := ⟨4, ![16, 1, 32, 128]⟩
abbrev S1x1x128x64 : Shape := ⟨4, ![1, 1, 128, 64]⟩
abbrev S1x1x64x64 : Shape := ⟨4, ![1, 1, 64, 64]⟩
abbrev S64x64 : Shape := ⟨2, ![64, 64]⟩
abbrev S64x32 : Shape := ⟨2, ![64, 32]⟩
abbrev S512x32 : Shape := ⟨2, ![512, 32]⟩
abbrev S32x1 : Shape := ⟨2, ![32, 1]⟩
abbrev S512x1 : Shape := ⟨2, ![512, 1]⟩
abbrev S16x1 : Shape := ⟨2, ![16, 1]⟩
abbrev S8x1 : Shape := ⟨2, ![8, 1]⟩
abbrev S2x128 : Shape := ⟨2, ![2, 128]⟩
abbrev S128x2 : Shape := ⟨2, ![128, 2]⟩
abbrev S128x2x1 : Shape := ⟨3, ![128, 2, 1]⟩

abbrev nBuf : Space → Nat
  | .hbm => 118
  | .vmem => 24
  | .smem => 0
  | _ => 0

abbrev bufTy : (tb : Table) → Fin (tcTables nBuf tb) → BufTy
  | .hbm, ⟨0, _⟩ => ⟨S128x32x3, .f32⟩
  | .hbm, ⟨1, _⟩ => ⟨S128x32x3, .f32⟩
  | .hbm, ⟨2, _⟩ => ⟨S128x32, .i32⟩
  | .hbm, ⟨3, _⟩ => ⟨S2x100x64, .f32⟩
  | .hbm, ⟨4, _⟩ => ⟨S2x2x25x64, .f32⟩
  | .hbm, ⟨5, _⟩ => ⟨S2x2x64, .f32⟩
  | .hbm, ⟨6, _⟩ => ⟨S2x2x64x64, .f32⟩
  | .hbm, ⟨7, _⟩ => ⟨S2x2x64, .f32⟩
  | .hbm, ⟨8, _⟩ => ⟨S2x2x64x64, .f32⟩
  | .hbm, ⟨9, _⟩ => ⟨S2x2x64x64, .f32⟩
  | .hbm, ⟨10, _⟩ => ⟨S2x2x64, .f32⟩
  | .hbm, ⟨11, _⟩ => ⟨S2x2x64x64, .f32⟩
  | .hbm, ⟨12, _⟩ => ⟨S2x2x64, .f32⟩
  | .hbm, ⟨13, _⟩ => ⟨S2x64x32, .f32⟩
  | .hbm, ⟨14, _⟩ => ⟨S2x32, .f32⟩
  | .hbm, ⟨15, _⟩ => ⟨S2x32x1, .f32⟩
  | .hbm, ⟨16, _⟩ => ⟨S2x1, .f32⟩
  | .hbm, ⟨17, _⟩ => ⟨S128x32x3, .f32⟩
  | .hbm, ⟨18, _⟩ => ⟨S1x128x32x3, .f32⟩
  | .hbm, ⟨19, _⟩ => ⟨S1x128x32x3, .f32⟩
  | .hbm, ⟨20, _⟩ => ⟨S2x128x32x3, .f32⟩
  | .hbm, ⟨21, _⟩ => ⟨S2x128x3x32, .f32⟩
  | .hbm, ⟨22, _⟩ => ⟨S_, .f32⟩
  | .hbm, ⟨23, _⟩ => ⟨S2x128x64, .f32⟩
  | .hbm, ⟨24, _⟩ => ⟨S_, .i32⟩
  | .hbm, ⟨25, _⟩ => ⟨S1, .i32⟩
  | .hbm, ⟨26, _⟩ => ⟨S2x128x64, .f32⟩
  | .hbm, ⟨27, _⟩ => ⟨S_, .f32⟩
  | .hbm, ⟨28, _⟩ => ⟨S2x2x32x64, .f32⟩
  | .hbm, ⟨29, _⟩ => ⟨S_, .i32⟩
  | .hbm, ⟨30, _⟩ => ⟨S1, .i32⟩
  | .hbm, ⟨31, _⟩ => ⟨S2x2x32x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S24, .f32⟩
  | .hbm, ⟨40, _⟩ => ⟨S_, .f32⟩
  | .hbm, ⟨41, _⟩ => ⟨S24, .f32⟩
  | .hbm, ⟨42, _⟩ => ⟨S24, .f32⟩
  | .hbm, ⟨43, _⟩ => ⟨S1, .f32⟩
  | .hbm, ⟨44, _⟩ => ⟨S_, .f32⟩
  | .hbm, ⟨45, _⟩ => ⟨S24, .f32⟩
  | .hbm, ⟨46, _⟩ => ⟨S24, .f32⟩
  | .hbm, ⟨47, _⟩ => ⟨S24, .f32⟩
  | .hbm, ⟨48, _⟩ => ⟨S24, .f32⟩
  | .hbm, ⟨49, _⟩ => ⟨S1, .f32⟩
  | .hbm, ⟨50, _⟩ => ⟨S24, .f32⟩
  | .hbm, ⟨51, _⟩ => ⟨S24, .f32⟩
  | .hbm, ⟨52, _⟩ => ⟨S24, .f32⟩
  | .hbm, ⟨53, _⟩ => ⟨S1, .f32⟩
  | .hbm, ⟨54, _⟩ => ⟨S25, .f32⟩
  | .hbm, ⟨55, _⟩ => ⟨S_, .f32⟩
  | .hbm, ⟨56, _⟩ => ⟨S1x32, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S1x32, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S1x1, .f32⟩
  | .hbm, ⟨69, _⟩ => ⟨S2x1x32x64, .f32⟩
  | .hbm, ⟨70, _⟩ => ⟨S2x32x64, .f32⟩
  | .hbm, ⟨71, _⟩ => ⟨S2x1x32x64, .f32⟩
  | .hbm, ⟨72, _⟩ => ⟨S2x32x64, .f32⟩
  | .hbm, ⟨73, _⟩ => ⟨S2x32x128, .f32⟩
  | .hbm, ⟨74, _⟩ => ⟨S_, .f32⟩
  | .hbm, ⟨75, _⟩ => ⟨S2x128x128, .f32⟩
  | .hbm, ⟨76, _⟩ => ⟨S2x1x64x64, .f32⟩
  | .hbm, ⟨77, _⟩ => ⟨S2x64x64, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S2x128x128, .f32⟩
  | .hbm, ⟨84, _⟩ => ⟨S2x1x64x64, .f32⟩
  | .hbm, ⟨85, _⟩ => ⟨S2x64x64, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S2x128x128, .f32⟩
  | .hbm, ⟨92, _⟩ => ⟨S_, .f32⟩
  | .hbm, ⟨93, _⟩ => ⟨S2x64x64, .f32⟩
  | .hbm, ⟨94, _⟩ => ⟨S2x1x64x64, .f32⟩
  | .hbm, ⟨95, _⟩ => ⟨S2x64x64, .f32⟩
  | .hbm, ⟨96, _⟩ => ⟨S2x64x128, .f32⟩
  | .hbm, ⟨97, _⟩ => ⟨S2x1x64x64, .f32⟩
  | .hbm, ⟨98, _⟩ => ⟨S2x64x64, .f32⟩
  | .hbm, ⟨99, _⟩ => ⟨S2x64x128, .f32⟩
  | .hbm, ⟨100, _⟩ => ⟨S2x1x64x128, .f32⟩
  | .hbm, ⟨101, _⟩ => ⟨S2x1x64x128, .f32⟩
  | .hbm, ⟨102, _⟩ => ⟨S2x2x64x128, .f32⟩
  | .hbm, ⟨103, _⟩ => ⟨S_, .f32⟩
  | .hbm, ⟨104, _⟩ => ⟨S2x64x64, .f32⟩
  | .hbm, ⟨105, _⟩ => ⟨S2x1x64x64, .f32⟩
  | .hbm, ⟨106, _⟩ => ⟨S2x64x64, .f32⟩
  | .hbm, ⟨107, _⟩ => ⟨S2x128x64, .f32⟩
  | .hbm, ⟨108, _⟩ => ⟨S2x1x64x64, .f32⟩
  | .hbm, ⟨109, _⟩ => ⟨S2x64x64, .f32⟩
  | .hbm, ⟨110, _⟩ => ⟨S2x128x64, .f32⟩
  | .hbm, ⟨111, _⟩ => ⟨S2x1x128x64, .f32⟩
  | .hbm, ⟨112, _⟩ => ⟨S2x1x128x64, .f32⟩
  | .hbm, ⟨113, _⟩ => ⟨S2x2x128x64, .f32⟩
  | .hbm, ⟨114, _⟩ => ⟨S2x16x8x1, .f32⟩
  | .hbm, ⟨115, _⟩ => ⟨S2x128, .f32⟩
  | .hbm, ⟨116, _⟩ => ⟨S128x2, .f32⟩
  | .hbm, ⟨117, _⟩ => ⟨S128x2x1, .f32⟩
  | .local _ .vmem, ⟨0, _⟩ => ⟨S2x8x3x32, .f32⟩
  | .local _ .vmem, ⟨1, _⟩ => ⟨S2x8x3x32, .f32⟩
  | .local _ .vmem, ⟨2, _⟩ => ⟨S8x32, .i32⟩
  | .local _ .vmem, ⟨3, _⟩ => ⟨S8x32, .i32⟩
  | .local _ .vmem, ⟨4, _⟩ => ⟨S1x128x64, .f32⟩
  | .local _ .vmem, ⟨5, _⟩ => ⟨S1x128x64, .f32⟩
  | .local _ .vmem, ⟨6, _⟩ => ⟨S1x32, .f32⟩
  | .local _ .vmem, ⟨7, _⟩ => ⟨S1x1, .f32⟩
  | .local _ .vmem, ⟨8, _⟩ => ⟨S1x32x128, .f32⟩
  | .local _ .vmem, ⟨9, _⟩ => ⟨S1x32x128, .f32⟩
  | .local _ .vmem, ⟨10, _⟩ => ⟨S1x128x128, .f32⟩
  | .local _ .vmem, ⟨11, _⟩ => ⟨S1x128x128, .f32⟩
  | .local _ .vmem, ⟨12, _⟩ => ⟨S1x2x64x128, .f32⟩
  | .local _ .vmem, ⟨13, _⟩ => ⟨S1x2x64x128, .f32⟩
  | .local _ .vmem, ⟨14, _⟩ => ⟨S1x2x128x64, .f32⟩
  | .local _ .vmem, ⟨15, _⟩ => ⟨S1x2x128x64, .f32⟩
  | .local _ .vmem, ⟨16, _⟩ => ⟨S1x2x64x64, .f32⟩
  | .local _ .vmem, ⟨17, _⟩ => ⟨S1x2x64x64, .f32⟩
  | .local _ .vmem, ⟨18, _⟩ => ⟨S1x64x32, .f32⟩
  | .local _ .vmem, ⟨19, _⟩ => ⟨S1x64x32, .f32⟩
  | .local _ .vmem, ⟨20, _⟩ => ⟨S1x32x1, .f32⟩
  | .local _ .vmem, ⟨21, _⟩ => ⟨S1x32x1, .f32⟩
  | .local _ .vmem, ⟨22, _⟩ => ⟨S1x1x8x1, .f32⟩
  | .local _ .vmem, ⟨23, _⟩ => ⟨S1x1x8x1, .f32⟩
  | _, _ => ⟨S128x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_cst : Ref sig .tc := ⟨.hbm, 37, rfl⟩
abbrev main_call0_v3 : Ref sig .tc := ⟨.hbm, 38, rfl⟩
abbrev main_call0_v4 : Ref sig .tc := ⟨.hbm, 39, rfl⟩
abbrev main_call0_cst_0 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_v15 : Ref sig .tc := ⟨.hbm, 52, rfl⟩
abbrev main_call0_v16 : Ref sig .tc := ⟨.hbm, 53, rfl⟩
abbrev main_v11 : Ref sig .tc := ⟨.hbm, 54, rfl⟩
abbrev main_cst_4 : Ref sig .tc := ⟨.hbm, 55, rfl⟩
abbrev main_v12 : Ref sig .tc := ⟨.hbm, 56, rfl⟩
abbrev main_c_5 : Ref sig .tc := ⟨.hbm, 57, rfl⟩
abbrev main_v13 : Ref sig .tc := ⟨.hbm, 58, rfl⟩
abbrev main_c_6 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_7 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_8 : Ref sig .tc := ⟨.hbm, 78, rfl⟩
abbrev main_v31 : Ref sig .tc := ⟨.hbm, 79, rfl⟩
abbrev main_c_9 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_10 : Ref sig .tc := ⟨.hbm, 86, rfl⟩
abbrev main_v37 : Ref sig .tc := ⟨.hbm, 87, rfl⟩
abbrev main_c_11 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_12 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_13 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x8x3x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2" => some ((Real.log 2 : ℝ) : EReal)
  | _ => none
-- ==== ReferenceIdeal.lean ====
abbrev S128x32x3 : Shape := ⟨3, ![128, 32, 3]⟩
abbrev S128x32 : Shape := ⟨2, ![128, 32]⟩
abbrev S2x100x64 : Shape := ⟨3, ![2, 100, 64]⟩
abbrev S2x2x25x64 : Shape := ⟨4, ![2, 2, 25, 64]⟩
abbrev S2x2x64 : Shape := ⟨3, ![2, 2, 64]⟩
abbrev S2x2x64x64 : Shape := ⟨4, ![2, 2, 64, 64]⟩
abbrev S2x64x32 : Shape := ⟨3, ![2, 64, 32]⟩
abbrev S2x32 : Shape := ⟨2, ![2, 32]⟩
abbrev S2x32x1 : Shape := ⟨3, ![2, 32, 1]⟩
abbrev S2x1 : Shape := ⟨2, ![2, 1]⟩
abbrev S1x128x32x3 : Shape := ⟨4, ![1, 128, 32, 3]⟩
abbrev S2x128x32x3 : Shape := ⟨4, ![2, 128, 32, 3]⟩
abbrev S_ : Shape := ⟨0, ![]⟩
abbrev S128x32x1 : Shape := ⟨3, ![128, 32, 1]⟩
abbrev S2x128x32x64 : Shape := ⟨4, ![2, 128, 32, 64]⟩
abbrev S2x128x32x1x3 : Shape := ⟨5, ![2, 128, 32, 1, 3]⟩
abbrev S2x128x1x32x3 : Shape := ⟨5, ![2, 128, 1, 32, 3]⟩
abbrev S2x128x32x32x3 : Shape := ⟨5, ![2, 128, 32, 32, 3]⟩
abbrev S2x128x32x32 : Shape := ⟨4, ![2, 128, 32, 32]⟩
abbrev S32x32 : Shape := ⟨2, ![32, 32]⟩
abbrev S1x32x32 : Shape := ⟨3, ![1, 32, 32]⟩
abbrev S24 : Shape := ⟨1, ![24]⟩
abbrev S1 : Shape := ⟨1, ![1]⟩
abbrev S25 : Shape := ⟨1, ![25]⟩
abbrev S2x128x32x32x1 : Shape := ⟨5, ![2, 128, 32, 32, 1]⟩
abbrev S1x1x1x25 : Shape := ⟨4, ![1, 1, 1, 25]⟩
abbrev S1x1x1x1x25 : Shape := ⟨5, ![1, 1, 1, 1, 25]⟩
abbrev S2x128x32x32x25 : Shape := ⟨5, ![2, 128, 32, 32, 25]⟩
abbrev S1x1x32x32 : Shape := ⟨4, ![1, 1, 32, 32]⟩
abbrev S2x1x25x64 : Shape := ⟨4, ![2, 1, 25, 64]⟩
abbrev S2x25x64 : Shape := ⟨3, ![2, 25, 64]⟩
abbrev S2x128x32x32x2x64 : Shape := ⟨6, ![2, 128, 32, 32, 2, 64]⟩
abbrev S2x1x64 : Shape := ⟨3, ![2, 1, 64]⟩
abbrev S2x64 : Shape := ⟨2, ![2, 64]⟩
abbrev S2x1x1x1x64 : Shape := ⟨5, ![2, 1, 1, 1, 64]⟩
abbrev S2x1x1x1x1x64 : Shape := ⟨6, ![2, 1, 1, 1, 1, 64]⟩
abbrev S2x2x128x32x32x64 : Shape := ⟨6, ![2, 2, 128, 32, 32, 64]⟩
abbrev S2x1x64x64 : Shape := ⟨4, ![2, 1, 64, 64]⟩
abbrev S2x64x64 : Shape := ⟨3, ![2, 64, 64]⟩
abbrev S1x2x128x32x32x1 : Shape := ⟨6, ![1, 2, 128, 32, 32, 1]⟩
abbrev S2x128x64x2x32 : Shape := ⟨5, ![2, 128, 64, 2, 32]⟩
abbrev S2x2x128x32x64 : Shape := ⟨5, ![2, 2, 128, 32, 64]⟩
abbrev S2x1x1x64 : Shape := ⟨4, ![2, 1, 1, 64]⟩
abbrev S2x1x128x32x64 : Shape := ⟨5, ![2, 1, 128, 32, 64]⟩
abbrev S2x2x128x64x32 : Shape := ⟨5, ![2, 2, 128, 64, 32]⟩
abbrev S2x2x128x32x32 : Shape := ⟨5, ![2, 2, 128, 32, 32]⟩
abbrev S2x1x1x32 : Shape := ⟨4, ![2, 1, 1, 32]⟩
abbrev S2x1x1x1x32 : Shape := ⟨5, ![2, 1, 1, 1, 32]⟩
abbrev S2x2x128x32x1 : Shape := ⟨5, ![2, 2, 128, 32, 1]⟩
abbrev S2x1x1x1 : Shape := ⟨4, ![2, 1, 1, 1]⟩
abbrev S2x1x1x1x1 : Shape := ⟨5, ![2, 1, 1, 1, 1]⟩
abbrev S2x2x128x1 : Shape := ⟨4, ![2, 2, 128, 1]⟩
abbrev S2x1x128x1 : Shape := ⟨4, ![2, 1, 128, 1]⟩
abbrev S2x128x1 : Shape := ⟨3, ![2, 128, 1]⟩
abbrev S128x2x1 : Shape := ⟨3, ![128, 2, 1]⟩

abbrev nBuf : Space → Nat
  | .hbm => 332
  | .vmem => 0
  | .smem => 0
  | _ => 0

abbrev hbmTy0_0 (i : Nat) : BufTy := match i % 128 with
  | 0 => ⟨S128x32x3, .f32⟩
  | 1 => ⟨S128x32x3, .f32⟩
  | 2 => ⟨S128x32, .i32⟩
  | 3 => ⟨S2x100x64, .f32⟩
  | 4 => ⟨S2x2x25x64, .f32⟩
  | 5 => ⟨S2x2x64, .f32⟩
  | 6 => ⟨S2x2x64x64, .f32⟩
  | 7 => ⟨S2x2x64, .f32⟩
  | 8 => ⟨S2x2x64x64, .f32⟩
  | 9 => ⟨S2x2x64x64, .f32⟩
  | 10 => ⟨S2x2x64, .f32⟩
  | 11 => ⟨S2x2x64x64, .f32⟩
  | 12 => ⟨S2x2x64, .f32⟩
  | 13 => ⟨S2x64x32, .f32⟩
  | 14 => ⟨S2x32, .f32⟩
  | 15 => ⟨S2x32x1, .f32⟩
  | 16 => ⟨S2x1, .f32⟩
  | 17 => ⟨S128x32x3, .f32⟩
  | 18 => ⟨S1x128x32x3, .f32⟩
  | 19 => ⟨S1x128x32x3, .f32⟩
  | 20 => ⟨S2x128x32x3, .f32⟩
  | 21 => ⟨S_, .i32⟩
  | 22 => ⟨S128x32, .i32⟩
  | 23 => ⟨S128x32, .i1⟩
  | 24 => ⟨S_, .i32⟩
  | 25 => ⟨S128x32, .i32⟩
  | 26 => ⟨S128x32, .i32⟩
  | 27 => ⟨S128x32, .i32⟩
  | 28 => ⟨S128x32x1, .i32⟩
  | 29 => ⟨S2x128x32x64, .f32⟩
  | 30 => ⟨S2x128x32x1x3, .f32⟩
  | 31 => ⟨S2x128x1x32x3, .f32⟩
  | 32 => ⟨S2x128x32x32x3, .f32⟩
  | 33 => ⟨S2x128x32x32x3, .f32⟩
  | 34 => ⟨S2x128x32x32x3, .f32⟩
  | 35 => ⟨S2x128x32x32x3, .f32⟩
  | 36 => ⟨S_, .f32⟩
  | 37 => ⟨S2x128x32x32, .f32⟩
  | 38 => ⟨S_, .f32⟩
  | 39 => ⟨S2x128x32x32, .f32⟩
  | 40 => ⟨S2x128x32x32, .f32⟩
  | 41 => ⟨S2x128x32x32, .f32⟩
  | 42 => ⟨S32x32, .i32⟩
  | 43 => ⟨S32x32, .i32⟩
  | 44 => ⟨S_, .i32⟩
  | 45 => ⟨S32x32, .i32⟩
  | 46 => ⟨S32x32, .i32⟩
  | 47 => ⟨S32x32, .i1⟩
  | 48 => ⟨S32x32, .f32⟩
  | 49 => ⟨S1x32x32, .f32⟩
  | 50 => ⟨S_, .f32⟩
  | 51 => ⟨S1x32x32, .f32⟩
  | 52 => ⟨S1x32x32, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S24, .f32⟩
  | 61 => ⟨S_, .f32⟩
  | 62 => ⟨S24, .f32⟩
  | 63 => ⟨S24, .f32⟩
  | 64 => ⟨S1, .f32⟩
  | 65 => ⟨S_, .f32⟩
  | 66 => ⟨S24, .f32⟩
  | 67 => ⟨S24, .f32⟩
  | 68 => ⟨S24, .f32⟩
  | 69 => ⟨S24, .f32⟩
  | 70 => ⟨S1, .f32⟩
  | 71 => ⟨S24, .f32⟩
  | 72 => ⟨S24, .f32⟩
  | 73 => ⟨S24, .f32⟩
  | 74 => ⟨S1, .f32⟩
  | 75 => ⟨S25, .f32⟩
  | 76 => ⟨S1, .f32⟩
  | 77 => ⟨S_, .f32⟩
  | 78 => ⟨S1, .f32⟩
  | 79 => ⟨S_, .f32⟩
  | 80 => ⟨S_, .f32⟩
  | 81 => ⟨S2x128x32x32x1, .f32⟩
  | 82 => ⟨S1x1x1x25, .f32⟩
  | 83 => ⟨S1x1x1x1x25, .f32⟩
  | 84 => ⟨S2x128x32x32x25, .f32⟩
  | 85 => ⟨S2x128x32x32x25, .f32⟩
  | 86 => ⟨S2x128x32x32x25, .f32⟩
  | 87 => ⟨S2x128x32x32x25, .f32⟩
  | 88 => ⟨S2x128x32x32x25, .f32⟩
  | 89 => ⟨S2x128x32x32x25, .f32⟩
  | 90 => ⟨S_, .f32⟩
  | 91 => ⟨S2x128x32x32x25, .f32⟩
  | 92 => ⟨S2x128x32x32x25, .f32⟩
  | 93 => ⟨S2x128x32x32x25, .f32⟩
  | 94 => ⟨S_, .f32⟩
  | 95 => ⟨S2x128x32x32, .f32⟩
  | 96 => ⟨S2x128x32x32, .f32⟩
  | 97 => ⟨S_, .f32⟩
  | 98 => ⟨S_, .f32⟩
  | 99 => ⟨S_, .f32⟩
  | 100 => ⟨S2x128x32x32, .f32⟩
  | 101 => ⟨S2x128x32x32, .f32⟩
  | 102 => ⟨S_, .f32⟩
  | 103 => ⟨S2x128x32x32, .f32⟩
  | 104 => ⟨S2x128x32x32, .f32⟩
  | 105 => ⟨S_, .f32⟩
  | 106 => ⟨S2x128x32x32, .f32⟩
  | 107 => ⟨S2x128x32x32, .f32⟩
  | 108 => ⟨S2x128x32x32, .f32⟩
  | 109 => ⟨S_, .f32⟩
  | 110 => ⟨S2x128x32x32, .f32⟩
  | 111 => ⟨S2x128x32x32, .f32⟩
  | 112 => ⟨S_, .f32⟩
  | 113 => ⟨S2x128x32x32, .f32⟩
  | 114 => ⟨S2x128x32x32, .f32⟩
  | 115 => ⟨S_, .f32⟩
  | 116 => ⟨S2x128x32x32, .f32⟩
  | 117 => ⟨S2x128x32x32, .i1⟩
  | 118 => ⟨S2x128x32x32, .f32⟩
  | 119 => ⟨S2x128x32x32, .f32⟩
  | 120 => ⟨S1x1x32x32, .f32⟩
  | 121 => ⟨S2x128x32x32, .f32⟩
  | 122 => ⟨S2x128x32x32, .f32⟩
  | 123 => ⟨S2x1x25x64, .f32⟩
  | 124 => ⟨S2x25x64, .f32⟩
  | 125 => ⟨S2x128x32x32x2x64, .f32⟩
  | 126 => ⟨S2x1x64, .f32⟩
  | 127 => ⟨S2x64, .f32⟩
  | _ => ⟨S128x32x3, .f32⟩

abbrev hbmTy0_1 (i : Nat) : BufTy := match i % 128 with
  | 0 => ⟨S2x1x1x1x64, .f32⟩
  | 1 => ⟨S2x1x1x1x1x64, .f32⟩
  | 2 => ⟨S2x2x128x32x32x64, .f32⟩
  | 3 => ⟨S2x2x128x32x32x64, .f32⟩
  | 4 => ⟨S2x2x128x32x32x64, .f32⟩
  | 5 => ⟨S_, .f32⟩
  | 6 => ⟨S2x2x128x32x32x64, .f32⟩
  | 7 => ⟨S2x2x128x32x32x64, .f32⟩
  | 8 => ⟨S2x2x128x32x32x64, .f32⟩
  | 9 => ⟨S2x2x128x32x32x64, .f32⟩
  | 10 => ⟨S2x2x128x32x32x64, .i1⟩
  | 11 => ⟨S2x2x128x32x32x64, .f32⟩
  | 12 => ⟨S2x2x128x32x32x64, .f32⟩
  | 13 => ⟨S2x2x128x32x32x64, .f32⟩
  | 14 => ⟨S2x2x128x32x32x64, .f32⟩
  | 15 => ⟨S2x2x128x32x32x64, .f32⟩
  | 16 => ⟨S2x2x128x32x32x64, .f32⟩
  | 17 => ⟨S2x2x128x32x32x64, .f32⟩
  | 18 => ⟨S2x2x128x32x32x64, .f32⟩
  | 19 => ⟨S_, .f32⟩
  | 20 => ⟨S_, .f32⟩
  | 21 => ⟨S_, .f32⟩
  | 22 => ⟨S2x2x128x32x32x64, .f32⟩
  | 23 => ⟨S2x2x128x32x32x64, .f32⟩
  | 24 => ⟨S2x1x64x64, .f32⟩
  | 25 => ⟨S2x64x64, .f32⟩
  | 26 => ⟨S2x2x128x32x32x64, .f32⟩
  | 27 => ⟨S2x1x64, .f32⟩
  | 28 => ⟨S2x64, .f32⟩
  | 29 => ⟨S2x1x1x1x64, .f32⟩
  | 30 => ⟨S2x1x1x1x1x64, .f32⟩
  | 31 => ⟨S2x2x128x32x32x64, .f32⟩
  | 32 => ⟨S2x2x128x32x32x64, .f32⟩
  | 33 => ⟨S2x128x32x32x1, .f32⟩
  | 34 => ⟨S1x2x128x32x32x1, .f32⟩
  | 35 => ⟨S2x2x128x32x32x64, .f32⟩
  | 36 => ⟨S2x2x128x32x32x64, .f32⟩
  | 37 => ⟨S2x1x64x64, .f32⟩
  | 38 => ⟨S2x64x64, .f32⟩
  | 39 => ⟨S2x128x32x64, .f32⟩
  | 40 => ⟨S2x128x64x2x32, .f32⟩
  | 41 => ⟨S2x2x128x32x64, .f32⟩
  | 42 => ⟨S2x1x64x64, .f32⟩
  | 43 => ⟨S2x64x64, .f32⟩
  | 44 => ⟨S2x2x128x32x64, .f32⟩
  | 45 => ⟨S2x1x64, .f32⟩
  | 46 => ⟨S2x64, .f32⟩
  | 47 => ⟨S2x1x1x64, .f32⟩
  | 48 => ⟨S2x1x1x1x64, .f32⟩
  | 49 => ⟨S2x2x128x32x64, .f32⟩
  | 50 => ⟨S2x2x128x32x64, .f32⟩
  | 51 => ⟨S_, .f32⟩
  | 52 => ⟨S2x2x128x32x64, .f32⟩
  | 53 => ⟨S2x2x128x32x64, .f32⟩
  | 54 => ⟨S2x2x128x32x64, .f32⟩
  | 55 => ⟨S2x2x128x32x64, .f32⟩
  | 56 => ⟨S2x2x128x32x64, .i1⟩
  | 57 => ⟨S2x2x128x32x64, .f32⟩
  | 58 => ⟨S2x2x128x32x64, .f32⟩
  | 59 => ⟨S2x2x128x32x64, .f32⟩
  | 60 => ⟨S2x2x128x32x64, .f32⟩
  | 61 => ⟨S2x2x128x32x64, .f32⟩
  | 62 => ⟨S2x2x128x32x64, .f32⟩
  | 63 => ⟨S2x2x128x32x64, .f32⟩
  | 64 => ⟨S2x2x128x32x64, .f32⟩
  | 65 => ⟨S_, .f32⟩
  | 66 => ⟨S_, .f32⟩
  | 67 => ⟨S_, .f32⟩
  | 68 => ⟨S2x2x128x32x64, .f32⟩
  | 69 => ⟨S2x2x128x32x64, .f32⟩
  | 70 => ⟨S2x1x64x64, .f32⟩
  | 71 => ⟨S2x64x64, .f32⟩
  | 72 => ⟨S2x2x128x32x64, .f32⟩
  | 73 => ⟨S2x1x64, .f32⟩
  | 74 => ⟨S2x64, .f32⟩
  | 75 => ⟨S2x1x1x64, .f32⟩
  | 76 => ⟨S2x1x1x1x64, .f32⟩
  | 77 => ⟨S2x2x128x32x64, .f32⟩
  | 78 => ⟨S2x2x128x32x64, .f32⟩
  | 79 => ⟨S2x1x128x32x64, .f32⟩
  | 80 => ⟨S2x2x128x32x64, .f32⟩
  | 81 => ⟨S2x2x128x32x64, .f32⟩
  | 82 => ⟨S2x1x25x64, .f32⟩
  | 83 => ⟨S2x25x64, .f32⟩
  | 84 => ⟨S2x128x32x32x2x64, .f32⟩
  | 85 => ⟨S2x1x64, .f32⟩
  | 86 => ⟨S2x64, .f32⟩
  | 87 => ⟨S2x1x1x1x64, .f32⟩
  | 88 => ⟨S2x1x1x1x1x64, .f32⟩
  | 89 => ⟨S2x2x128x32x32x64, .f32⟩
  | 90 => ⟨S2x2x128x32x32x64, .f32⟩
  | 91 => ⟨S2x2x128x32x32x64, .f32⟩
  | 92 => ⟨S_, .f32⟩
  | 93 => ⟨S2x2x128x32x32x64, .f32⟩
  | 94 => ⟨S2x2x128x32x32x64, .f32⟩
  | 95 => ⟨S2x2x128x32x32x64, .f32⟩
  | 96 => ⟨S2x2x128x32x32x64, .f32⟩
  | 97 => ⟨S2x2x128x32x32x64, .i1⟩
  | 98 => ⟨S2x2x128x32x32x64, .f32⟩
  | 99 => ⟨S2x2x128x32x32x64, .f32⟩
  | 100 => ⟨S2x2x128x32x32x64, .f32⟩
  | 101 => ⟨S2x2x128x32x32x64, .f32⟩
  | 102 => ⟨S2x2x128x32x32x64, .f32⟩
  | 103 => ⟨S2x2x128x32x32x64, .f32⟩
  | 104 => ⟨S2x2x128x32x32x64, .f32⟩
  | 105 => ⟨S2x2x128x32x32x64, .f32⟩
  | 106 => ⟨S_, .f32⟩
  | 107 => ⟨S_, .f32⟩
  | 108 => ⟨S_, .f32⟩
  | 109 => ⟨S2x2x128x32x32x64, .f32⟩
  | 110 => ⟨S2x2x128x32x32x64, .f32⟩
  | 111 => ⟨S2x1x64x64, .f32⟩
  | 112 => ⟨S2x64x64, .f32⟩
  | 113 => ⟨S2x2x128x32x32x64, .f32⟩
  | 114 => ⟨S2x1x64, .f32⟩
  | 115 => ⟨S2x64, .f32⟩
  | 116 => ⟨S2x1x1x1x64, .f32⟩
  | 117 => ⟨S2x1x1x1x1x64, .f32⟩
  | 118 => ⟨S2x2x128x32x32x64, .f32⟩
  | 119 => ⟨S2x2x128x32x32x64, .f32⟩
  | 120 => ⟨S2x128x32x32x1, .f32⟩
  | 121 => ⟨S1x2x128x32x32x1, .f32⟩
  | 122 => ⟨S2x2x128x32x32x64, .f32⟩
  | 123 => ⟨S2x2x128x32x32x64, .f32⟩
  | 124 => ⟨S2x1x64x64, .f32⟩
  | 125 => ⟨S2x64x64, .f32⟩
  | 126 => ⟨S2x2x128x32x64, .f32⟩
  | 127 => ⟨S2x2x128x64x32, .f32⟩
  | _ => ⟨S128x32x3, .f32⟩

abbrev hbmTy0_2 (i : Nat) : BufTy := match i % 128 with
  | 0 => ⟨S2x2x128x32x64, .f32⟩
  | 1 => ⟨S2x1x64x64, .f32⟩
  | 2 => ⟨S2x64x64, .f32⟩
  | 3 => ⟨S2x2x128x32x64, .f32⟩
  | 4 => ⟨S2x1x64, .f32⟩
  | 5 => ⟨S2x64, .f32⟩
  | 6 => ⟨S2x1x1x64, .f32⟩
  | 7 => ⟨S2x1x1x1x64, .f32⟩
  | 8 => ⟨S2x2x128x32x64, .f32⟩
  | 9 => ⟨S2x2x128x32x64, .f32⟩
  | 10 => ⟨S_, .f32⟩
  | 11 => ⟨S2x2x128x32x64, .f32⟩
  | 12 => ⟨S2x2x128x32x64, .f32⟩
  | 13 => ⟨S2x2x128x32x64, .f32⟩
  | 14 => ⟨S2x2x128x32x64, .f32⟩
  | 15 => ⟨S2x2x128x32x64, .i1⟩
  | 16 => ⟨S2x2x128x32x64, .f32⟩
  | 17 => ⟨S2x2x128x32x64, .f32⟩
  | 18 => ⟨S2x2x128x32x64, .f32⟩
  | 19 => ⟨S2x2x128x32x64, .f32⟩
  | 20 => ⟨S2x2x128x32x64, .f32⟩
  | 21 => ⟨S2x2x128x32x64, .f32⟩
  | 22 => ⟨S2x2x128x32x64, .f32⟩
  | 23 => ⟨S2x2x128x32x64, .f32⟩
  | 24 => ⟨S_, .f32⟩
  | 25 => ⟨S_, .f32⟩
  | 26 => ⟨S_, .f32⟩
  | 27 => ⟨S2x2x128x32x64, .f32⟩
  | 28 => ⟨S2x2x128x32x64, .f32⟩
  | 29 => ⟨S2x1x64x64, .f32⟩
  | 30 => ⟨S2x64x64, .f32⟩
  | 31 => ⟨S2x2x128x32x64, .f32⟩
  | 32 => ⟨S2x1x64, .f32⟩
  | 33 => ⟨S2x64, .f32⟩
  | 34 => ⟨S2x1x1x64, .f32⟩
  | 35 => ⟨S2x1x1x1x64, .f32⟩
  | 36 => ⟨S2x2x128x32x64, .f32⟩
  | 37 => ⟨S2x2x128x32x64, .f32⟩
  | 38 => ⟨S2x2x128x32x64, .f32⟩
  | 39 => ⟨S2x2x128x32x32, .f32⟩
  | 40 => ⟨S2x1x1x32, .f32⟩
  | 41 => ⟨S2x1x1x1x32, .f32⟩
  | 42 => ⟨S2x2x128x32x32, .f32⟩
  | 43 => ⟨S2x2x128x32x32, .f32⟩
  | 44 => ⟨S_, .f32⟩
  | 45 => ⟨S2x2x128x32x32, .f32⟩
  | 46 => ⟨S2x2x128x32x32, .f32⟩
  | 47 => ⟨S2x2x128x32x32, .f32⟩
  | 48 => ⟨S2x2x128x32x32, .f32⟩
  | 49 => ⟨S2x2x128x32x32, .i1⟩
  | 50 => ⟨S2x2x128x32x32, .f32⟩
  | 51 => ⟨S2x2x128x32x32, .f32⟩
  | 52 => ⟨S2x2x128x32x32, .f32⟩
  | 53 => ⟨S2x2x128x32x32, .f32⟩
  | 54 => ⟨S2x2x128x32x32, .f32⟩
  | 55 => ⟨S2x2x128x32x32, .f32⟩
  | 56 => ⟨S2x2x128x32x32, .f32⟩
  | 57 => ⟨S2x2x128x32x32, .f32⟩
  | 58 => ⟨S_, .f32⟩
  | 59 => ⟨S_, .f32⟩
  | 60 => ⟨S_, .f32⟩
  | 61 => ⟨S2x2x128x32x32, .f32⟩
  | 62 => ⟨S2x2x128x32x32, .f32⟩
  | 63 => ⟨S2x2x128x32x1, .f32⟩
  | 64 => ⟨S2x1x1x1, .f32⟩
  | 65 => ⟨S2x1x1x1x1, .f32⟩
  | 66 => ⟨S2x2x128x32x1, .f32⟩
  | 67 => ⟨S2x2x128x32x1, .f32⟩
  | 68 => ⟨S_, .f32⟩
  | 69 => ⟨S2x2x128x1, .f32⟩
  | 70 => ⟨S2x1x128x1, .f32⟩
  | 71 => ⟨S2x128x1, .f32⟩
  | 72 => ⟨S2x1x128x1, .f32⟩
  | 73 => ⟨S2x128x1, .f32⟩
  | 74 => ⟨S2x128x1, .f32⟩
  | 75 => ⟨S128x2x1, .f32⟩
  | _ => ⟨S128x32x3, .f32⟩

abbrev hbmTy (i : Nat) : BufTy := match i / 128 with
  | 0 => hbmTy0_0 i
  | 1 => hbmTy0_1 i
  | 2 => hbmTy0_2 i
  | _ => ⟨S128x32x3, .f32⟩

abbrev bufTy : (tb : Table) → Fin (tcTables nBuf tb) → BufTy
  | .hbm, ⟨i, _⟩ => hbmTy i
  | _, _ => ⟨S128x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_cst : Ref sig .tc := ⟨.hbm, 58, rfl⟩
abbrev main_call0_v3 : Ref sig .tc := ⟨.hbm, 59, rfl⟩
abbrev main_call0_v4 : Ref sig .tc := ⟨.hbm, 60, rfl⟩
abbrev main_call0_cst_0 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_v15 : Ref sig .tc := ⟨.hbm, 73, rfl⟩
abbrev main_call0_v16 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_6 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_7 : Ref sig .tc := ⟨.hbm, 94, rfl⟩
abbrev main_v48 : Ref sig .tc := ⟨.hbm, 95, rfl⟩
abbrev main_v49 : Ref sig .tc := ⟨.hbm, 96, rfl⟩
abbrev main_cst_8 : Ref sig .tc := ⟨.hbm, 97, rfl⟩
abbrev main_cst_9 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v50 : Ref sig .tc := ⟨.hbm, 104, rfl⟩
abbrev main_cst_10 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_11 : Ref sig .tc := ⟨.hbm, 109, rfl⟩
abbrev main_v54 : Ref sig .tc := ⟨.hbm, 110, rfl⟩
abbrev main_v55 : Ref sig .tc := ⟨.hbm, 111, rfl⟩
abbrev main_cst_12 : Ref sig .tc := ⟨.hbm, 112, rfl⟩
abbrev main_v56 : Ref sig .tc := ⟨.hbm, 113, rfl⟩
abbrev main_v57 : Ref sig .tc := ⟨.hbm, 114, rfl⟩
abbrev main_cst_13 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_v75 : Ref sig .tc := ⟨.hbm, 146, rfl⟩
abbrev main_cst_14 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_call3_cst : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_v6 : Ref sig .tc := ⟨.hbm, 186, rfl⟩
abbrev main_call3_v7 : Ref sig .tc := ⟨.hbm, 187, rfl⟩
abbrev main_call3_v8 : Ref sig .tc := ⟨.hbm, 188, rfl⟩
abbrev main_call3_v9 : Ref sig .tc := ⟨.hbm, 189, rfl⟩
abbrev main_call3_v10 : Ref sig .tc := ⟨.hbm, 190, rfl⟩
abbrev main_call3_v11 : Ref sig .tc := ⟨.hbm, 191, rfl⟩
abbrev main_v107 : Ref sig .tc := ⟨.hbm, 192, rfl⟩
abbrev main_cst_15 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_call4_cst : Ref sig .tc := ⟨.hbm, 220, rfl⟩
abbrev main_call4_v0 : Ref sig .tc := ⟨.hbm, 221, rfl⟩
abbrev main_call4_v1 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_v5 : Ref sig .tc := ⟨.hbm, 226, rfl⟩
abbrev main_call4_v6 : Ref sig .tc := ⟨.hbm, 227, rfl⟩
abbrev main_call4_v7 : Ref sig .tc := ⟨.hbm, 228, rfl⟩
abbrev main_call4_v8 : Ref sig .tc := ⟨.hbm, 229, rfl⟩
abbrev main_call4_v9 : Ref sig .tc := ⟨.hbm, 230, rfl⟩
abbrev main_call4_v10 : Ref sig .tc := ⟨.hbm, 231, rfl⟩
abbrev main_call4_v11 : Ref sig .tc := ⟨.hbm, 232, rfl⟩
abbrev main_v134 : Ref sig .tc := ⟨.hbm, 233, rfl⟩
abbrev main_cst_16 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_call5_cst : Ref sig .tc := ⟨.hbm, 266, rfl⟩
abbrev main_call5_v0 : Ref sig .tc := ⟨.hbm, 267, rfl⟩
abbrev main_call5_v1 : Ref sig .tc := ⟨.hbm, 268, rfl⟩
abbrev main_call5_v2 : Ref sig .tc := ⟨.hbm, 269, rfl⟩
abbrev main_call5_v3 : Ref sig .tc := ⟨.hbm, 270, rfl⟩
abbrev main_call5_v4 : Ref sig .tc := ⟨.hbm, 271, rfl⟩
abbrev main_call5_v5 : Ref sig .tc := ⟨.hbm, 272, rfl⟩
abbrev main_call5_v6 : Ref sig .tc := ⟨.hbm, 273, rfl⟩
abbrev main_call5_v7 : Ref sig .tc := ⟨.hbm, 274, rfl⟩
abbrev main_call5_v8 : Ref sig .tc := ⟨.hbm, 275, rfl⟩
abbrev main_call5_v9 : Ref sig .tc := ⟨.hbm, 276, rfl⟩
abbrev main_call5_v10 : Ref sig .tc := ⟨.hbm, 277, rfl⟩
abbrev main_call5_v11 : Ref sig .tc := ⟨.hbm, 278, rfl⟩
abbrev main_v166 : Ref sig .tc := ⟨.hbm, 279, rfl⟩
abbrev main_cst_17 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_call6_cst : Ref sig .tc := ⟨.hbm, 300, rfl⟩
abbrev main_call6_v0 : Ref sig .tc := ⟨.hbm, 301, rfl⟩
abbrev main_call6_v1 : Ref sig .tc := ⟨.hbm, 302, rfl⟩
abbrev main_call6_v2 : Ref sig .tc := ⟨.hbm, 303, rfl⟩
abbrev main_call6_v3 : Ref sig .tc := ⟨.hbm, 304, rfl⟩
abbrev main_call6_v4 : Ref sig .tc := ⟨.hbm, 305, rfl⟩
abbrev main_call6_v5 : Ref sig .tc := ⟨.hbm, 306, rfl⟩
abbrev main_call6_v6 : Ref sig .tc := ⟨.hbm, 307, rfl⟩
abbrev main_call6_v7 : Ref sig .tc := ⟨.hbm, 308, rfl⟩
abbrev main_call6_v8 : Ref sig .tc := ⟨.hbm, 309, rfl⟩
abbrev main_call6_v9 : Ref sig .tc := ⟨.hbm, 310, rfl⟩
abbrev main_call6_v10 : Ref sig .tc := ⟨.hbm, 311, rfl⟩
abbrev main_call6_v11 : Ref sig .tc := ⟨.hbm, 312, rfl⟩
abbrev main_v186 : Ref sig .tc := ⟨.hbm, 313, rfl⟩
abbrev main_cst_18 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_cst_19 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩

abbrev nD : Nat := 1
abbrev τ : Topo := Topo.v7x

variable {F : FTy → Type} [FloatOps F]
-- ==== Proof.Spec.lean ====
/- The mathematics that the kernel and the reference share, index by index over the extended reals: the SchNet energy of
   one net at one set of positions, without the biases (zero under the precondition) and without the last one (it cancels
   in the difference of two energies). Nothing here mentions a program. -/
module

public import Idealize.ShloMosaic.PureOps.Ideal
public import Idealize.ShloMosaic.PureOps.Ideal.Laws

@[expose] public section

noncomputable section

namespace Cert.Proof.Spec

open Idealize.ShloMosaic

/-- The shifted softplus, in the form both programs evaluate: `max x 0 + log (1 + e^(-|x|)) - log 2`. -/
def ssp (x : EReal) : EReal := max x 0 + Ideal.log1p (Ideal.exp (-max x (-x))) - ((Real.log 2 : ℝ) : EReal)

/-- The weights of one net. -/
structure Net where
  /-- the embedding of each atomic number -/
  emb : Fin 100 → Fin 64 → EReal
  /-- the filter networks' first layers -/
  fw1 : Fin 2 → Fin 25 → Fin 64 → EReal
  /-- the filter networks' second layers -/
  fw2 : Fin 2 → Fin 64 → Fin 64 → EReal
  /-- the maps into the filters -/
  in2f : Fin 2 → Fin 64 → Fin 64 → EReal
  /-- the maps out of the filters -/
  f2out : Fin 2 → Fin 64 → Fin 64 → EReal
  /-- the interactions' output layers -/
  dw : Fin 2 → Fin 64 → Fin 64 → EReal
  /-- the head's first layer -/
  ow1 : Fin 64 → Fin 32 → EReal
  /-- the head's second layer -/
  ow2 : Fin 32 → EReal

/-- The centres of the radial basis and their spacing. -/
structure Basis where
  /-- the centres -/
  off : Fin 25 → EReal
  /-- the spacing of the first two -/
  width : EReal

/-- The literal `1e-8` under the root. -/
def eps : EReal := Ideal.ofBits .f32 0x322BCC77#32
/-- The literal cutoff radius `5`. -/
def radius : EReal := Ideal.ofBits .f32 0x40A00000#32
/-- The literal `π`, a rounded number like the others here. -/
def pie : EReal := Ideal.ofBits .f32 0x40490FDB#32
/-- The literal `1/2`. -/
def half : EReal := Ideal.ofBits .f32 0x3F000000#32
/-- The literal `-1/2`. -/
def negHalf : EReal := Ideal.ofBits .f32 0xBF000000#32

/-- The softened distance of atoms `i` and `j`. -/
def dist (p : Fin 32 → Fin 3 → EReal) (i j : Fin 32) : EReal :=
  Ideal.sqrt ((∑ k : Fin 3, (p i k - p j k) * (p i k - p j k)) + eps)

/-- The indicator of a comparison's bit, as the programs convert it to a float. -/
def bit (b : Prop) [Decidable b] : EReal := if b then 1 else 0

/-- The cosine cutoff at distance `d`, before the pairs of an atom with itself are excluded. -/
def cosCut (d : EReal) : EReal :=
  half * (Ideal.cos (pie * min 1 (max 0 (Ideal.div d radius))) + 1) * bit (d < radius)

/-- The cutoff of the pair `i`, `j`: zero where the two are the same atom. -/
def cut (p : Fin 32 → Fin 3 → EReal) (i j : Fin 32) : EReal := cosCut (dist p i j) * bit (i ≠ j)

/-- The Gaussian of width `w` about `o`, at distance `d`. -/
def gauss (o w d : EReal) : EReal := Ideal.exp (negHalf * (Ideal.div (d - o) w * Ideal.div (d - o) w))

variable (N : Net) (G : Basis) (p : Fin 32 → Fin 3 → EReal)

/-- Layer `l`'s filter for the pair `i`, `j`: the filter network of the pair's radial basis, times the cutoff. -/
def filter (l : Fin 2) (i j : Fin 32) (f : Fin 64) : EReal :=
  (∑ h : Fin 64, ssp (∑ g : Fin 25, gauss (G.off g) G.width (dist p i j) * N.fw1 l g h) * N.fw2 l h f) * cut p i j

/-- Layer `l`'s continuous-filter convolution of the features `x`. -/
def conv (l : Fin 2) (x : Fin 32 → Fin 64 → EReal) (i : Fin 32) (f : Fin 64) : EReal :=
  ∑ j : Fin 32, filter N G p l i j f * ∑ a : Fin 64, x j a * N.in2f l a f

/-- Layer `l`: the features plus the interaction's output. -/
def layer (l : Fin 2) (x : Fin 32 → Fin 64 → EReal) (i : Fin 32) (a : Fin 64) : EReal :=
  x i a + ∑ h : Fin 64, ssp (∑ f : Fin 64, conv N G p l x i f * N.f2out l f h) * N.dw l h a

/-- The features of the atoms with numbers `z` after both layers. -/
def features (z : Fin 32 → Fin 100) : Fin 32 → Fin 64 → EReal :=
  layer N G p 1 (layer N G p 0 fun i a => N.emb (z i) a)

/-- The head: one atom's energy from its features, without the last bias. -/
def atom (x : Fin 64 → EReal) : EReal := ∑ h : Fin 32, ssp (∑ a : Fin 64, x a * N.ow1 a h) * N.ow2 h

/-- The energy of the molecule, the sum of its atoms' energies. -/
def energy (z : Fin 32 → Fin 100) : EReal := ∑ i : Fin 32, atom N (features N G p z i)

end Cert.Proof.Spec

end
-- ==== Proof.Result.lean ====
/- The mathematics of `Spec` at the programs' arguments: the two nets, the positions before and after the actions, and the
   result that both programs are shown to hold. -/
module

public import proofs.«01_k».proof.Proof.Spec
public import Idealize.ShloMosaic.Lib.Pointwise

@[expose] public section

noncomputable section

namespace Cert.Proof.Spec

open Idealize.ShloMosaic Idealize.ShloMosaic.Pointwise

/-- The arguments that the energies depend on. -/
structure Args where
  /-- the states -/
  states : Vec Ideal ⟨3, ![128, 32, 3]⟩ .f32
  /-- the actions -/
  actions : Vec Ideal ⟨3, ![128, 32, 3]⟩ .f32
  /-- the embedding tables -/
  emb : Vec Ideal ⟨3, ![2, 100, 64]⟩ .f32
  /-- the filter networks' first layers -/
  fw1 : Vec Ideal ⟨4, ![2, 2, 25, 64]⟩ .f32
  /-- the filter networks' second layers -/
  fw2 : Vec Ideal ⟨4, ![2, 2, 64, 64]⟩ .f32
  /-- the maps into the filters -/
  in2f : Vec Ideal ⟨4, ![2, 2, 64, 64]⟩ .f32
  /-- the maps out of the filters -/
  f2out : Vec Ideal ⟨4, ![2, 2, 64, 64]⟩ .f32
  /-- the interactions' output layers -/
  dw : Vec Ideal ⟨4, ![2, 2, 64, 64]⟩ .f32
  /-- the heads' first layers -/
  ow1 : Vec Ideal ⟨3, ![2, 64, 32]⟩ .f32
  /-- the heads' second layers -/
  ow2 : Vec Ideal ⟨3, ![2, 32, 1]⟩ .f32

namespace Args

variable (A : Args)

/-- The weights of net `n`. -/
def net (n : Fin 2) : Net where
  emb z a := A.emb (ix3 n z a)
  fw1 l g h := A.fw1 (ix4 n l g h)
  fw2 l h f := A.fw2 (ix4 n l h f)
  in2f l a f := A.in2f (ix4 n l a f)
  f2out l f h := A.f2out (ix4 n l f h)
  dw l h a := A.dw (ix4 n l h a)
  ow1 a h := A.ow1 (ix3 n a h)
  ow2 h := A.ow2 (ix3 n h 0)

/-- The positions of molecule `b`: its state. -/
def before (b : Fin 128) (i : Fin 32) (k : Fin 3) : EReal := A.states (ix3 b i k)

/-- The positions of molecule `b` after its actions. -/
def after (b : Fin 128) (i : Fin 32) (k : Fin 3) : EReal := A.states (ix3 b i k) + A.actions (ix3 b i k)

/-- The energy that net `n` says molecule `b`, of atomic numbers `z b`, loses by its actions. -/
def result (G : Basis) (z : Fin 128 → Fin 32 → Fin 100) (b : Fin 128) (n : Fin 2) : EReal :=
  energy (A.net n) G (A.before b) (z b) - energy (A.net n) G (A.after b) (z b)

/-- The differences of energies, as the array of molecules by nets that both programs return. -/
def value (G : Basis) (z : Fin 128 → Fin 32 → Fin 100) : Vec Ideal ⟨3, ![128, 2, 1]⟩ .f32 := fun i => A.result G z (i 0) (i 1)

end Args

/-- The radial basis whose centres are `o`. -/
def basis (o : Vec Ideal ⟨1, ![25]⟩ .f32) : Basis := ⟨fun g => o (ix1 g), o (ix1 1) - o (ix1 0)⟩

end Cert.Proof.Spec

end
-- ==== Proof.Pair.lean ====
/- The reference's quantities of the pairs of atoms: positions, distances, the radial basis and the cutoff are those of `Spec`. -/
module

public import proofs.«01_k».proof.Proof.Gen.ReferenceIdeal.Read
public import proofs.«01_k».proof.Proof.Result

@[expose] public section

set_option maxRecDepth 16384

noncomputable section

namespace Cert.Proof.Reference

open Idealize.ShloMosaic Idealize.ShloMosaic.TcCoe Idealize.ShloMosaic.Pointwise Cert.ReferenceIdeal Cert.ReferenceIdeal.Gen
open Cert.ReferenceIdeal.Read Cert.Proof.Spec

/-! ## The softplus -/

/-- The literal zero. -/
theorem lit_zero : (FloatOps.ofBits .f32 0x00000000#32 : Ideal .f32) = 0 := Ideal.ofBits_zero_f32

/-- The literal one. -/
theorem lit_one : (FloatOps.ofBits .f32 0x3F800000#32 : Ideal .f32) = 1 := by
  simp [Ideal.ofBits_def, Ideal.ofBits, Ideal.ieee, -EReal.coe_mul]
  norm_num

/-- The logarithm of the literal two. -/
theorem log_two : Ideal.log (FloatOps.ofBits (F := Ideal) .f32 0x40000000#32) = ((Real.log 2 : ℝ) : EReal) := by
  have e : (FloatOps.ofBits .f32 0x40000000#32 : Ideal .f32) = ((2 : ℝ) : EReal) := by
    simp [Ideal.ofBits_def, Ideal.ofBits, Ideal.ieee, -EReal.coe_mul]
    norm_num
  rw [e, Ideal.log_coe, if_neg (by norm_num)]

/-- The softplus as the library writes it, less `log 2`, at one number: no number differs from itself. -/
theorem ssp_scalar (a : EReal) :
    Scalar.select (Ideal.cmp .une (a - 0) (a - 0)) (a + 0) (max a 0 + Ideal.log1p (Ideal.exp (-max (a - 0) (-(a - 0))))) - ((Real.log 2 : ℝ) : EReal)
      = ssp a := by
  have h : Ideal.cmp .une (a - 0) (a - 0) = 0#1 := by simp [Ideal.cmp]
  rw [h, sub_zero]
  rfl

/-- The softplus as the library writes it, less `log 2`, over an array. -/
theorem ssp_array {S : Shape} (hb : S_.BroadcastsInDim S ![]) (x : FVec Ideal S .f32) (i : S.Idx) :
    subf (select (cmpf .une (subf x (broadcastInDim S ![] hb (constant S_ .f32 0x00000000#32))) (subf x (broadcastInDim S ![] hb (constant S_ .f32 0x00000000#32))))
        (addf x (broadcastInDim S ![] hb (constant S_ .f32 0x00000000#32)))
        (addf (maximumf x (broadcastInDim S ![] hb (constant S_ .f32 0x00000000#32)))
          (Host.log1p (Host.exp (Host.negf (Host.absf (subf x (broadcastInDim S ![] hb (constant S_ .f32 0x00000000#32)))))))))
      (broadcastInDim S ![] hb (id (Host.log (constant (F := Ideal) S_ .f32 0x40000000#32)))) i = ssp (x i) := by
  refine Eq.trans ?_ (ssp_scalar (x i))
  rw [← log_two, ← lit_zero]
  rfl

/-! ## The pairs -/

variable (x0 x1 : Vec Ideal S128x32x3 .f32)

/-- The positions of molecule `b`: at `s = 0` its state, at `s = 1` its state moved by its actions. -/
def place (s : Fin 2) (b : Fin 128) (i : Fin 32) (k : Fin 3) : EReal :=
  if s.val < 1 then x0 (ix3 b i k) else x0 (ix3 b i k) + x1 (ix3 b i k)

/-- The two sets of positions, one over the other. -/
theorem v3_at (s : Fin 2) (b : Fin 128) (i : Fin 32) (k : Fin 3) : val_main_v3 x0 x1 (ix4 s b i k) = place x0 x1 s b i k := by
  unfold place
  pointwise [val_main_v3, val_main_v2, val_main_v1, val_main_v0]
  rfl

/-- The same at an index. -/
theorem v3_apply (y : S2x128x32x3.Idx) : val_main_v3 x0 x1 y = place x0 x1 (y 0) (y 1) (y 2) (y 3) := by
  refine Eq.trans (congrArg _ ?_) (v3_at x0 x1 (y 0) (y 1) (y 2) (y 3))
  exact funext fun a => match a with
    | ⟨0, _⟩ => rfl
    | ⟨1, _⟩ => rfl
    | ⟨2, _⟩ => rfl
    | ⟨3, _⟩ => rfl

/-- The distances. -/
theorem v20_apply (i : S2x128x32x32.Idx) : val_main_v20 x0 x1 i = Spec.dist (place x0 x1 (i 0) (i 1)) (i 2) (i 3) := by
  rw [val_main_v20_apply, val_main_v19_apply, val_main_v17_apply, val_main_v18_apply]
  simp only [val_main_v16_apply, val_main_v15_apply, val_main_v14_apply, val_main_v13_apply, val_main_v12_apply, val_main_v11_apply,
    v3_apply, val_main_cst_apply, val_main_cst_1_apply, lit_zero, zero_add]
  rfl

/-- The Gaussians. -/
theorem v47_apply (i : S2x128x32x32x25.Idx) : val_main_v47 x0 x1 i
    = gauss ((basis val_main_v30).off (i 4)) (basis val_main_v30).width (Spec.dist (place x0 x1 (i 0) (i 1)) (i 2) (i 3)) := by
  have hw (y : S_.Idx) : val_main_v35 (F := Ideal) y = (basis val_main_v30).width := by
    unfold basis
    pointwise [val_main_v35, val_main_v34, val_main_v33, val_main_v32, val_main_v31]
  have ho (y : S25.Idx) : val_main_v30 (F := Ideal) y = (basis val_main_v30).off (y 0) :=
    congrArg _ (funext fun a => match a with | ⟨0, _⟩ => rfl)
  simp only [val_main_v47_apply, val_main_v46_apply, val_main_v45_apply, val_main_v44_apply, val_main_v43_apply, val_main_v42_apply,
    val_main_v41_apply, val_main_v40_apply, val_main_v39_apply, val_main_v38_apply, val_main_v37_apply, val_main_v36_apply,
    v20_apply, val_main_cst_6_apply, hw, ho]
  rfl

/-- The indicator of a pair of different atoms: one less the diagonal. -/
theorem mask_scalar (i j : Fin 32) :
    (1 : EReal) - FloatOps.uitofp (F := Ideal) .f32 (IntOp.cmpi .eq (IntOp.addi (BitVec.ofNat 32 i.val) 0#32) (BitVec.ofNat 32 j.val)) = bit (i ≠ j) := by
  have e : IntOp.cmpi .eq (IntOp.addi (BitVec.ofNat 32 i.val) 0#32) (BitVec.ofNat 32 j.val) = BitVec.ofBool (decide (i = j)) := by
    revert i j
    decide +kernel
  rw [e]
  unfold bit
  by_cases h : i = j
  · simp [h, FloatOps.uitofp]
    exact EReal.sub_self (EReal.coe_ne_top 1) (EReal.coe_ne_bot 1)
  · simp [h, FloatOps.uitofp]

/-- The indicator of a distance below the radius. -/
theorem below_scalar (d : EReal) : FloatOps.uitofp (F := Ideal) .f32 (FloatOps.cmpf (F := Ideal) (φ := .f32) .olt d radius) = bit (d < radius) := by
  show FloatOps.uitofp (F := Ideal) .f32 (Ideal.cmp .olt d radius) = _
  unfold bit
  by_cases h : d < radius <;> simp [h, FloatOps.uitofp, Ideal.cmp]

/-- The cutoff. -/
theorem v64_apply (i : S2x128x32x32.Idx) : val_main_v64 x0 x1 i = cut (place x0 x1 (i 0) (i 1)) (i 2) (i 3) := by
  simp only [val_main_v64_apply, val_main_v63_apply, val_main_v62_apply, val_main_v61_apply, val_main_v60_apply, val_main_v59_apply,
    val_main_v58_apply, val_main_v57_apply, val_main_v56_apply, val_main_v55_apply, val_main_v54_apply, val_main_v53_apply,
    val_main_v52_apply, val_main_v51_apply, val_main_v50_apply, val_main_v49_apply, val_main_v48_apply, val_main_call1_v0_apply,
    val_main_call1_v1_apply, val_main_call1_v2_apply, val_main_call1_v3_apply, val_main_call1_v4_apply, val_main_v29_apply,
    val_main_v28_apply, val_main_v27_apply, val_main_v26_apply, val_main_v25_apply, val_main_v24_apply, val_main_v23_apply,
    val_main_v22_apply, val_main_v21_apply, val_main_c_2_apply, val_main_cst_3_apply, val_main_cst_7_apply, val_main_cst_8_apply,
    val_main_cst_9_apply, val_main_cst_10_apply, val_main_cst_11_apply, val_main_cst_12_apply, val_main_cst_13_apply, v20_apply,
    lit_one, lit_zero]
  exact congrArg₂ (· * ·) (congrArg₂ (· * ·) rfl (below_scalar _)) (mask_scalar (i 2) (i 3))

end Cert.Proof.Reference

end
-- ==== Proof.Gather.lean ====
/- The reference's look-up of the atomic numbers in the embedding tables. -/
module

public import proofs.«01_k».proof.Proof.Pair

@[expose] public section

set_option maxRecDepth 16384

noncomputable section

namespace Cert.Proof.Reference

open Idealize.ShloMosaic Idealize.ShloMosaic.TcCoe Idealize.ShloMosaic.Pointwise Cert.ReferenceIdeal Cert.ReferenceIdeal.Gen
open Cert.ReferenceIdeal.Read Cert.Proof.Spec

/-- The look-up's dimension numbers. -/
abbrev lookDims := gather_S2x100x64_S128x32x1_S2x128x32x64_03_1_n_n_1_2_2164

/-- The look-up at net `n`, molecule `b`, atom `i` and feature `a`: the tables' row that the atom's index names, read as a
    signed integer and held within the tables. -/
theorem look_apply (x : Vec Ideal S2x100x64 .f32) (idx : IVec S128x32x1 32) (n : Fin 2) (b : Fin 128) (i : Fin 32) (a : Fin 64) :
    Idealize.ShloMosaic.Host.gather lookDims x idx (ix4 n b i a) = x (ix3 n ⟨min (idx (ix3 b i 0)).toInt.toNat 99, by omega⟩ a) := by
  unfold Idealize.ShloMosaic.Host.gather
  congr 1
  funext d
  refine Fin.ext ?_
  show lookDims.start (ix4 n b i a) idx d + lookDims.batchCoord (ix4 n b i a) d + lookDims.offCoord (ix4 n b i a) d = _
  rw [GatherDims.batchCoord_eq_zero _ _ _ List.not_mem_nil, Nat.add_zero]
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show ¬ (0 : Fin 3) ∈ lookDims.startIndexMap by decide)]
    exact Nat.zero_add _
  · rw [GatherDims.offCoord_eq_zero _ _ _ (fun h => ((GatherDims.mem_sKept _ _).mp h).1 (List.mem_singleton.mpr rfl)), Nat.add_zero]
    unfold GatherDims.start
    rw [dif_pos (show (1 : Fin 3) ∈ lookDims.startIndexMap from List.mem_singleton.mpr rfl)]
    have hsi : lookDims.siIdx (ix4 n b i a) ⟨List.idxOf (1 : Fin 3) lookDims.startIndexMap,
        List.idxOf_lt_length_iff.2 (List.mem_singleton.mpr rfl)⟩ = ix3 b i 0 := by
      funext e
      refine Fin.ext ?_
      match e with
      | ⟨0, _⟩ => rfl
      | ⟨1, _⟩ => rfl
      | ⟨2, _⟩ => rfl
    rw [hsi]
    rfl
  · unfold GatherDims.start
    rw [dif_neg (show ¬ (2 : Fin 3) ∈ lookDims.startIndexMap by decide)]
    exact Nat.zero_add _

/-- An atomic number as the index it is. -/
theorem index_scalar : ∀ z : Fin 100,
    min (Scalar.select (IntOp.cmpi .slt (BitVec.ofNat 32 z.val) 0#32) (IntOp.addi (BitVec.ofNat 32 z.val) 100#32) (BitVec.ofNat 32 z.val)).toInt.toNat 99 = z.val := by
  decide +kernel

/-- The embedding of each atom's number. -/
theorem v10_apply (A : Args) (z : Fin 128 → Fin 32 → Fin 100) (x2 : IVec S128x32 32)
    (hz : ∀ b i, x2 (ix2 b i) = BitVec.ofNat 32 (z b i).val) (y : S2x128x32x64.Idx) :
    val_main_v10 x2 A.emb y = (A.net (y 0)).emb (z (y 1) (y 2)) (y 3) := by
  have h (n : Fin 2) (b : Fin 128) (i : Fin 32) (a : Fin 64) : val_main_v10 x2 A.emb (ix4 n b i a) = (A.net n).emb (z b i) a := by
    refine (look_apply A.emb _ n b i a).trans ?_
    have e : val_main_v9 (F := Ideal) x2 (ix3 b i 0)
        = Scalar.select (IntOp.cmpi .slt (BitVec.ofNat 32 (z b i).val) 0#32) (IntOp.addi (BitVec.ofNat 32 (z b i).val) 100#32) (BitVec.ofNat 32 (z b i).val) := by
      rw [← hz]
      pointwise [val_main_v9, val_main_v8, val_main_v7, val_main_v6, val_main_v5, val_main_v4, val_main_c, val_main_c_0]
    exact congrArg (fun q : Fin 100 => A.emb (ix3 n q a)) (Fin.ext ((congrArg (fun q : BitVec 32 => min q.toInt.toNat 99) e).trans (index_scalar (z b i))))
  refine Eq.trans (congrArg _ ?_) (h (y 0) (y 1) (y 2) (y 3))
  exact funext fun a => match a with
    | ⟨0, _⟩ => rfl
    | ⟨1, _⟩ => rfl
    | ⟨2, _⟩ => rfl
    | ⟨3, _⟩ => rfl

end Cert.Proof.Reference

end
-- ==== Proof.Net.lean ====
/- The reference's net, stage by stage: under the conditions on the biases each stage is the one of `Spec`. -/
module

public import proofs.«01_k».proof.Proof.Gather

@[expose] public section

set_option maxRecDepth 16384

noncomputable section

namespace Cert.Proof.Reference

open Idealize.ShloMosaic Idealize.ShloMosaic.TcCoe Idealize.ShloMosaic.Pointwise Cert.ReferenceIdeal Cert.ReferenceIdeal.Gen
open Cert.ReferenceIdeal.Read Cert.Proof.Spec

/-! ## The weights of a layer -/

/-- Layer 0 of the filters' first layers. -/
theorem v66_apply (x : Vec Ideal S2x2x25x64 .f32) (y : S2x25x64.Idx) : val_main_v66 x y = x (ix4 (y 0) 0 (y 1) (y 2)) := by
  have h (n : Fin 2) (g : Fin 25) (h : Fin 64) : val_main_v66 x (ix3 n g h) = x (ix4 n 0 g h) := by pointwise [val_main_v66, val_main_v65]
  exact (congrArg (val_main_v66 x) (funext fun a => match a with | ⟨0, _⟩ => rfl | ⟨1, _⟩ => rfl | ⟨2, _⟩ => rfl)).trans (h (y 0) (y 1) (y 2))

/-- Layer 1 of the filters' first layers. -/
theorem v125_apply (x : Vec Ideal S2x2x25x64 .f32) (y : S2x25x64.Idx) : val_main_v125 x y = x (ix4 (y 0) 1 (y 1) (y 2)) := by
  have h (n : Fin 2) (g : Fin 25) (h : Fin 64) : val_main_v125 x (ix3 n g h) = x (ix4 n 1 g h) := by pointwise [val_main_v125, val_main_v124]
  exact (congrArg (val_main_v125 x) (funext fun a => match a with | ⟨0, _⟩ => rfl | ⟨1, _⟩ => rfl | ⟨2, _⟩ => rfl)).trans (h (y 0) (y 1) (y 2))

/-- Layer 0 of an array of square weights. -/
theorem v81_apply (x : Vec Ideal S2x2x64x64 .f32) (y : S2x64x64.Idx) : val_main_v81 x y = x (ix4 (y 0) 0 (y 1) (y 2)) := by
  have h (n : Fin 2) (g : Fin 64) (h : Fin 64) : val_main_v81 x (ix3 n g h) = x (ix4 n 0 g h) := by pointwise [val_main_v81, val_main_v80]
  exact (congrArg (val_main_v81 x) (funext fun a => match a with | ⟨0, _⟩ => rfl | ⟨1, _⟩ => rfl | ⟨2, _⟩ => rfl)).trans (h (y 0) (y 1) (y 2))

/-- Layer 1 of an array of square weights. -/
theorem v140_apply (x : Vec Ideal S2x2x64x64 .f32) (y : S2x64x64.Idx) : val_main_v140 x y = x (ix4 (y 0) 1 (y 1) (y 2)) := by
  have h (n : Fin 2) (g : Fin 64) (h : Fin 64) : val_main_v140 x (ix3 n g h) = x (ix4 n 1 g h) := by pointwise [val_main_v140, val_main_v139]
  exact (congrArg (val_main_v140 x) (funext fun a => match a with | ⟨0, _⟩ => rfl | ⟨1, _⟩ => rfl | ⟨2, _⟩ => rfl)).trans (h (y 0) (y 1) (y 2))

variable (A : Args) (z : Fin 128 → Fin 32 → Fin 100) (x2 : IVec S128x32 32)
variable (x5 x7 x10 x12 : Vec Ideal S2x2x64 .f32)

/-- The reference's radial basis. -/
abbrev grid : Basis := basis (val_main_v30 (F := Ideal))

/-- The positions of molecule `b`, before its actions at `s = 0` and after them at `s = 1`. -/
abbrev at_ (s : Fin 2) (b : Fin 128) : Fin 32 → Fin 3 → EReal := place A.states A.actions s b

/-! ## The filters -/

/-- Layer 0's filters. -/
theorem v92_apply (h5 : ∀ y, x5 y = 0) (h7 : ∀ y, x7 y = 0) (i : S2x2x128x32x32x64.Idx) :
    val_main_v92 A.states A.actions A.fw1 x5 A.fw2 x7 i = Spec.filter (A.net (i 0)) grid (at_ A (i 1) (i 2)) 0 (i 3) (i 4) (i 5) := by
  have h74 (y : S2x2x128x32x32x64.Idx) : val_main_v74 A.states A.actions A.fw1 x5 y
      = ∑ g : Fin 25, gauss (grid.off g) grid.width (Spec.dist (at_ A (y 1) (y 2)) (y 3) (y 4)) * (A.net (y 0)).fw1 0 g (y 5) := by
    rw [val_main_v74_apply, val_main_v72_apply, val_main_v67_apply]
    simp only [val_main_v73_apply, val_main_v71_apply, val_main_v70_apply, val_main_v69_apply, val_main_v68_apply, h5, v47_apply, v66_apply]
    exact add_zero _
  have h79 (y : S2x2x128x32x32x64.Idx) : val_main_v79 A.states A.actions A.fw1 x5 y = ssp (val_main_v74 A.states A.actions A.fw1 x5 y) :=
    ssp_array _ _ y
  rw [val_main_v92_apply, val_main_v88_apply, val_main_v82_apply]
  simp only [val_main_v87_apply, val_main_v86_apply, val_main_v85_apply, val_main_v84_apply, val_main_v83_apply, h7, h79, h74, v81_apply,
    val_main_v91_apply, val_main_v90_apply, val_main_v89_apply, v64_apply]
  exact congrArg₂ (· * ·) (add_zero _) rfl

/-- Layer 1's filters. -/
theorem v151_apply (h5 : ∀ y, x5 y = 0) (h7 : ∀ y, x7 y = 0) (i : S2x2x128x32x32x64.Idx) :
    val_main_v151 A.states A.actions A.fw1 x5 A.fw2 x7 i = Spec.filter (A.net (i 0)) grid (at_ A (i 1) (i 2)) 1 (i 3) (i 4) (i 5) := by
  have h133 (y : S2x2x128x32x32x64.Idx) : val_main_v133 A.states A.actions A.fw1 x5 y
      = ∑ g : Fin 25, gauss (grid.off g) grid.width (Spec.dist (at_ A (y 1) (y 2)) (y 3) (y 4)) * (A.net (y 0)).fw1 1 g (y 5) := by
    rw [val_main_v133_apply, val_main_v131_apply, val_main_v126_apply]
    simp only [val_main_v132_apply, val_main_v130_apply, val_main_v129_apply, val_main_v128_apply, val_main_v127_apply, h5, v47_apply, v125_apply]
    exact add_zero _
  have h138 (y : S2x2x128x32x32x64.Idx) : val_main_v138 A.states A.actions A.fw1 x5 y = ssp (val_main_v133 A.states A.actions A.fw1 x5 y) :=
    ssp_array _ _ y
  rw [val_main_v151_apply, val_main_v147_apply, val_main_v141_apply]
  simp only [val_main_v146_apply, val_main_v145_apply, val_main_v144_apply, val_main_v143_apply, val_main_v142_apply, h7, h138, h133, v140_apply,
    val_main_v150_apply, val_main_v149_apply, val_main_v148_apply, v64_apply]
  exact congrArg₂ (· * ·) (add_zero _) rfl

/-! ## The layers -/

/-- The features after layer 0. -/
abbrev first (n s : Fin 2) (b : Fin 128) : Fin 32 → Fin 64 → EReal :=
  layer (A.net n) grid (at_ A s b) 0 fun i a => (A.net n).emb (z b i) a

/-- Layer 0's convolution. -/
theorem v97_apply (h5 : ∀ y, x5 y = 0) (h7 : ∀ y, x7 y = 0) (hz : ∀ b i, x2 (ix2 b i) = BitVec.ofNat 32 (z b i).val) (y : S2x2x128x32x64.Idx) :
    val_main_v97 A.states A.actions x2 A.emb A.fw1 x5 A.fw2 x7 A.in2f y
      = conv (A.net (y 0)) grid (at_ A (y 1) (y 2)) 0 (fun i a => (A.net (y 0)).emb (z (y 2) i) a) (y 3) (y 4) := by
  rw [val_main_v97_apply, val_main_v96_apply]
  refine Finset.sum_congr rfl fun j _ => ?_
  rw [v92_apply A x5 x7 h5 h7, val_main_v95_apply, mul_comm]
  refine congrArg₂ (· * ·) rfl (Finset.sum_congr rfl fun a _ => ?_)
  exact congrArg₂ (· * ·) (v10_apply A z x2 hz _) (v81_apply A.in2f _)

/-- Layer 0. -/
theorem v123_apply (h5 : ∀ y, x5 y = 0) (h7 : ∀ y, x7 y = 0) (h10 : ∀ y, x10 y = 0) (h12 : ∀ y, x12 y = 0)
    (hz : ∀ b i, x2 (ix2 b i) = BitVec.ofNat 32 (z b i).val) (y : S2x2x128x32x64.Idx) :
    val_main_v123 A.states A.actions x2 A.emb A.fw1 x5 A.fw2 x7 A.in2f A.f2out x10 A.dw x12 y = first A z (y 0) (y 1) (y 2) (y 3) (y 4) := by
  have h106 (y : S2x2x128x32x64.Idx) : val_main_v106 A.states A.actions x2 A.emb A.fw1 x5 A.fw2 x7 A.in2f A.f2out x10 y
      = ∑ f : Fin 64, conv (A.net (y 0)) grid (at_ A (y 1) (y 2)) 0 (fun i a => (A.net (y 0)).emb (z (y 2) i) a) (y 3) f * (A.net (y 0)).f2out 0 f (y 4) := by
    rw [val_main_v106_apply, val_main_v100_apply]
    simp only [val_main_v105_apply, val_main_v104_apply, val_main_v103_apply, val_main_v102_apply, val_main_v101_apply, h10]
    refine (add_zero _).trans (Finset.sum_congr rfl fun f _ => ?_)
    exact congrArg₂ (· * ·) (v97_apply A z x2 x5 x7 h5 h7 hz _) (v81_apply A.f2out _)
  have h111 (y : S2x2x128x32x64.Idx) : val_main_v111 A.states A.actions x2 A.emb A.fw1 x5 A.fw2 x7 A.in2f A.f2out x10 y
      = ssp (val_main_v106 A.states A.actions x2 A.emb A.fw1 x5 A.fw2 x7 A.in2f A.f2out x10 y) := ssp_array _ _ y
  rw [val_main_v123_apply, val_main_v122_apply, val_main_v121_apply, v10_apply A z x2 hz, val_main_v120_apply, val_main_v114_apply]
  simp only [val_main_v119_apply, val_main_v118_apply, val_main_v117_apply, val_main_v116_apply, val_main_v115_apply, h12, h111, h106]
  refine congrArg₂ (· + ·) rfl ((add_zero _).trans (Finset.sum_congr rfl fun f _ => ?_))
  exact congrArg₂ (· * ·) rfl (v81_apply A.dw _)

/-- Layer 1's convolution. -/
theorem v156_apply (h5 : ∀ y, x5 y = 0) (h7 : ∀ y, x7 y = 0) (h10 : ∀ y, x10 y = 0) (h12 : ∀ y, x12 y = 0)
    (hz : ∀ b i, x2 (ix2 b i) = BitVec.ofNat 32 (z b i).val) (y : S2x2x128x32x64.Idx) :
    val_main_v156 A.states A.actions x2 A.emb A.fw1 x5 A.fw2 x7 A.in2f A.f2out x10 A.dw x12 y
      = conv (A.net (y 0)) grid (at_ A (y 1) (y 2)) 1 (first A z (y 0) (y 1) (y 2)) (y 3) (y 4) := by
  rw [val_main_v156_apply, val_main_v155_apply]
  refine Finset.sum_congr rfl fun j _ => ?_
  rw [v151_apply A x5 x7 h5 h7, val_main_v154_apply, mul_comm]
  refine congrArg₂ (· * ·) rfl (Finset.sum_congr rfl fun a _ => ?_)
  exact congrArg₂ (· * ·) (v123_apply A z x2 x5 x7 x10 x12 h5 h7 h10 h12 hz _) (v140_apply A.in2f _)

/-- Both layers. -/
theorem v180_apply (h5 : ∀ y, x5 y = 0) (h7 : ∀ y, x7 y = 0) (h10 : ∀ y, x10 y = 0) (h12 : ∀ y, x12 y = 0)
    (hz : ∀ b i, x2 (ix2 b i) = BitVec.ofNat 32 (z b i).val) (y : S2x2x128x32x64.Idx) :
    val_main_v180 A.states A.actions x2 A.emb A.fw1 x5 A.fw2 x7 A.in2f A.f2out x10 A.dw x12 y
      = features (A.net (y 0)) grid (at_ A (y 1) (y 2)) (z (y 2)) (y 3) (y 4) := by
  have h165 (y : S2x2x128x32x64.Idx) : val_main_v165 A.states A.actions x2 A.emb A.fw1 x5 A.fw2 x7 A.in2f A.f2out x10 A.dw x12 y
      = ∑ f : Fin 64, conv (A.net (y 0)) grid (at_ A (y 1) (y 2)) 1 (first A z (y 0) (y 1) (y 2)) (y 3) f * (A.net (y 0)).f2out 1 f (y 4) := by
    rw [val_main_v165_apply, val_main_v159_apply]
    simp only [val_main_v164_apply, val_main_v163_apply, val_main_v162_apply, val_main_v161_apply, val_main_v160_apply, h10]
    refine (add_zero _).trans (Finset.sum_congr rfl fun f _ => ?_)
    exact congrArg₂ (· * ·) (v156_apply A z x2 x5 x7 x10 x12 h5 h7 h10 h12 hz _) (v140_apply A.f2out _)
  have h170 (y : S2x2x128x32x64.Idx) : val_main_v170 A.states A.actions x2 A.emb A.fw1 x5 A.fw2 x7 A.in2f A.f2out x10 A.dw x12 y
      = ssp (val_main_v165 A.states A.actions x2 A.emb A.fw1 x5 A.fw2 x7 A.in2f A.f2out x10 A.dw x12 y) := ssp_array _ _ y
  rw [val_main_v180_apply, v123_apply A z x2 x5 x7 x10 x12 h5 h7 h10 h12 hz, val_main_v179_apply, val_main_v173_apply]
  simp only [val_main_v178_apply, val_main_v177_apply, val_main_v176_apply, val_main_v175_apply, val_main_v174_apply, h12, h170, h165]
  refine congrArg₂ (· + ·) rfl ((add_zero _).trans (Finset.sum_congr rfl fun f _ => ?_))
  exact congrArg₂ (· * ·) rfl (v140_apply A.dw _)

end Cert.Proof.Reference

end
-- ==== Proof.Head.lean ====
/- The reference's head and result: the differences of the energies of `Spec`. -/
module

public import proofs.«01_k».proof.Proof.Net

@[expose] public section

set_option maxRecDepth 16384

noncomputable section

namespace Cert.Proof.Reference

open Idealize.ShloMosaic Idealize.ShloMosaic.TcCoe Idealize.ShloMosaic.Pointwise Cert.ReferenceIdeal Cert.ReferenceIdeal.Gen
open Cert.ReferenceIdeal.Read Cert.Proof.Spec

/-! ## The last bias cancels -/

/-- A finite number added on both sides of a difference cancels. -/
theorem cancel (a b : EReal) (r : ℝ) : (a + (r : EReal)) - (b + (r : EReal)) = a - b := by
  rw [sub_eq_add_neg, EReal.neg_add (Or.inr (EReal.coe_ne_top r)) (Or.inr (EReal.coe_ne_bot r)), sub_eq_add_neg, add_add_add_comm]
  rw [← sub_eq_add_neg (r : EReal), EReal.sub_self (EReal.coe_ne_top r) (EReal.coe_ne_bot r), add_zero, ← sub_eq_add_neg]

/-- A finite number added to every term of two sums cancels in their difference. -/
theorem cancel_sum (f g : Fin 32 → EReal) (c : EReal) (ht : c ≠ ⊤) (hb : c ≠ ⊥) : (∑ i, (f i + c)) - (∑ i, (g i + c)) = (∑ i, f i) - ∑ i, g i := by
  lift c to ℝ using ⟨ht, hb⟩
  have e : (∑ _i : Fin 32, (c : EReal)) = ((∑ _i : Fin 32, c : ℝ) : EReal) := by
    simp only [Finset.sum_const, Finset.card_univ, Fintype.card_fin, EReal.coe_nsmul]
  rw [Finset.sum_add_distrib, Finset.sum_add_distrib, e]
  exact cancel _ _ _

/-! ## The head -/

variable (A : Args) (z : Fin 128 → Fin 32 → Fin 100) (x2 : IVec S128x32 32)
variable (x5 x7 x10 x12 : Vec Ideal S2x2x64 .f32) (x14 : Vec Ideal S2x32 .f32) (x16 : Vec Ideal S2x1 .f32)

/-- What the reference asks of the arguments: atomic numbers in the tables' range, the inner biases zero, the last finite. -/
structure Admitted : Prop where
  /-- the atomic numbers -/
  z : ∀ b i, x2 (ix2 b i) = BitVec.ofNat 32 (z b i).val
  /-- the filters' first biases -/
  fb1 : ∀ y, x5 y = 0
  /-- the filters' second biases -/
  fb2 : ∀ y, x7 y = 0
  /-- the biases out of the filters -/
  f2out : ∀ y, x10 y = 0
  /-- the interactions' output biases -/
  db : ∀ y, x12 y = 0
  /-- the head's first bias -/
  ob1 : ∀ y, x14 y = 0
  /-- the head's second bias, not infinite from above -/
  ob2_top : ∀ y, x16 y ≠ ⊤
  /-- nor from below -/
  ob2_bot : ∀ y, x16 y ≠ ⊥

variable (H : Admitted z x2 x5 x7 x10 x12 x14 x16)
include H

/-- An atom's energy, with the last bias. -/
theorem v195_apply (y : S2x2x128x32x1.Idx) :
    val_main_v195 A.states A.actions x2 A.emb A.fw1 x5 A.fw2 x7 A.in2f A.f2out x10 A.dw x12 A.ow1 x14 A.ow2 x16 y
      = atom (A.net (y 0)) (features (A.net (y 0)) grid (at_ A (y 1) (y 2)) (z (y 2)) (y 3)) + x16 (ix2 (y 0) 0) := by
  have h185 (y : S2x2x128x32x32.Idx) : val_main_v185 A.states A.actions x2 A.emb A.fw1 x5 A.fw2 x7 A.in2f A.f2out x10 A.dw x12 A.ow1 x14 y
      = ∑ a : Fin 64, features (A.net (y 0)) grid (at_ A (y 1) (y 2)) (z (y 2)) (y 3) a * (A.net (y 0)).ow1 a (y 4) := by
    rw [val_main_v185_apply, val_main_v181_apply]
    simp only [val_main_v184_apply, val_main_v183_apply, val_main_v182_apply, H.ob1]
    refine (add_zero _).trans (Finset.sum_congr rfl fun a _ => ?_)
    refine congrArg₂ (· * ·) (v180_apply A z x2 x5 x7 x10 x12 H.fb1 H.fb2 H.f2out H.db H.z _) (congrArg A.ow1 ?_)
    exact funext fun a => match a with
      | ⟨0, _⟩ => rfl
      | ⟨1, _⟩ => rfl
      | ⟨2, _⟩ => rfl
  have h190 (y : S2x2x128x32x32.Idx) : val_main_v190 A.states A.actions x2 A.emb A.fw1 x5 A.fw2 x7 A.in2f A.f2out x10 A.dw x12 A.ow1 x14 y
      = ssp (val_main_v185 A.states A.actions x2 A.emb A.fw1 x5 A.fw2 x7 A.in2f A.f2out x10 A.dw x12 A.ow1 x14 y) := ssp_array _ _ y
  rw [val_main_v195_apply, val_main_v191_apply]
  simp only [val_main_v194_apply, val_main_v193_apply, val_main_v192_apply, h190, h185]
  refine congrArg₂ (· + ·) (Finset.sum_congr rfl fun h _ => congrArg₂ (· * ·) rfl (congrArg A.ow2 ?_)) (congrArg x16 ?_)
  · exact funext fun a => match a with
      | ⟨0, _⟩ => rfl
      | ⟨1, _⟩ => rfl
      | ⟨2, _⟩ => Fin.ext (Nat.lt_one_iff.mp (y 4).isLt)
  · exact funext fun a => match a with
      | ⟨0, _⟩ => rfl
      | ⟨1, _⟩ => Fin.ext (by first | rfl | exact Nat.lt_one_iff.mp (y 4).isLt)

/-- A molecule's energy, its atoms' with the last bias. -/
theorem v196_at (n s : Fin 2) (b : Fin 128) :
    val_main_v196 A.states A.actions x2 A.emb A.fw1 x5 A.fw2 x7 A.in2f A.f2out x10 A.dw x12 A.ow1 x14 A.ow2 x16 (ix4 n s b 0)
      = ∑ i : Fin 32, (atom (A.net n) (features (A.net n) grid (at_ A s b) (z b) i) + x16 (ix2 n 0)) := by
  rw [val_main_v196_apply, val_main_cst_19_apply, lit_zero, zero_add]
  exact Finset.sum_congr rfl fun i _ => v195_apply A z x2 x5 x7 x10 x12 x14 x16 H _

omit H in
/-- The first positions are the states. -/
theorem at_before (b : Fin 128) : at_ A 0 b = A.before b := rfl

omit H in
/-- The second are the states moved by the actions. -/
theorem at_after (b : Fin 128) : at_ A 1 b = A.after b := rfl

/-- What the reference returns. -/
theorem value_eq : val_main_v202 A.states A.actions x2 A.emb A.fw1 x5 A.fw2 x7 A.in2f A.f2out x10 A.dw x12 A.ow1 x14 A.ow2 x16 = A.value grid z := by
  have h (b : Fin 128) (n : Fin 2) :
      val_main_v202 A.states A.actions x2 A.emb A.fw1 x5 A.fw2 x7 A.in2f A.f2out x10 A.dw x12 A.ow1 x14 A.ow2 x16 (ix3 b n 0) = A.result grid z b n := by
    have e0 := v196_at A z x2 x5 x7 x10 x12 x14 x16 H n 0 b
    have e1 := v196_at A z x2 x5 x7 x10 x12 x14 x16 H n 1 b
    pointwise [val_main_v202, val_main_v201, val_main_v200, val_main_v199, val_main_v198, val_main_v197]
    rw [e0, e1]
    exact cancel_sum _ _ _ (H.ob2_top _) (H.ob2_bot _)
  refine funext fun (y : S128x2x1.Idx) => ?_
  refine Eq.trans (congrArg _ ?_) (h (y 0) (y 1))
  exact funext fun a => match a with
    | ⟨0, _⟩ => rfl
    | ⟨1, _⟩ => rfl
    | ⟨2, _⟩ => Fin.ext (Nat.lt_one_iff.mp (y 2).isLt)

end Cert.Proof.Reference

end
-- ==== Proof.Pre.lean ====
/- What the precondition says of the arguments' elements. -/
module

public import proofs.«01_k».proof.Defs
public import proofs.«01_k».proof.Proof.Head
public import Idealize.ShloMosaic.Lib.ReduceAll
public import Idealize.ShloMosaic.Lib.WordCmp

@[expose] public section

set_option maxRecDepth 16384

noncomputable section

namespace Cert.Proof.Pre

open Idealize.ShloMosaic Idealize.ShloMosaic.Pointwise Cert.Pre_admissible Cert.Proof.Reference

/-- The shape relations that the precondition's operations take. -/
instance facts : Cert.Pre_admissible.Facts where
  bcast_S_S128x32 := by decide
  reducesTo_S128x32_S_d0_1 := by decide
  h_S_ := by decide
  bcast_S_S2x2x64 := by decide
  reducesTo_S2x2x64_S_d0_1_2 := by decide
  bcast_S_S2x32 := by decide
  reducesTo_S2x32_S_d0_1 := by decide
  bcast_S_S2x1 := by decide
  reducesTo_S2x1_S_d0_1 := by decide

/-- A shape without axes has one index. -/
instance one_index : Subsingleton S_.Idx := ⟨fun _ _ => funext fun a => a.elim0⟩

/-- A truth value whose bit is set is true. -/
theorem true_of_ofBool (b : Bool) (h : BitVec.ofBool b = 1#1) : b = true := by
  revert b; decide

/-- A comparison that holds says that the number is zero. -/
theorem zero_of_cmp (x : Ideal .f32) (h : FloatOps.cmpf .oeq x (FloatOps.ofBits .f32 0x00000000#32) = 1#1) : x = (0 : EReal) := by
  have h' : BitVec.ofBool (decide (x = (FloatOps.ofBits .f32 0x00000000#32 : Ideal .f32))) = 1#1 := h
  have e := of_decide_eq_true (true_of_ofBool _ h')
  exact e.trans lit_zero

/-- The word of positive infinity. -/
theorem lit_top : (FloatOps.ofBits .f32 0x7F800000#32 : Ideal .f32) = (⊤ : EReal) := by
  simp [Ideal.ofBits_def, Ideal.ofBits, Ideal.ieee]

/-- A number whose absolute value is below infinity is finite. -/
theorem finite_of_cmp (x : Ideal .f32) (h : FloatOps.cmpf .olt (FloatOps.hostAbsf x) (FloatOps.ofBits .f32 0x7F800000#32) = 1#1) :
    x ≠ (⊤ : EReal) ∧ x ≠ (⊥ : EReal) := by
  have h' : BitVec.ofBool (decide (max (x : EReal) (-x) < (FloatOps.ofBits .f32 0x7F800000#32 : Ideal .f32))) = 1#1 := h
  have e := of_decide_eq_true (true_of_ofBool _ h')
  rw [lit_top, max_lt_iff] at e
  exact ⟨e.1.ne, fun hb => absurd (hb ▸ e.2) (by simp)⟩

/-- A word between 0 and 99 is the word of a number below 100. -/
theorem index_of_cmp (w : BitVec 32) (h : IntOp.andi (IntOp.cmpi .sge w 0#32) (IntOp.cmpi .slt w 100#32) = 1#1) :
    ∃ z : Fin 100, w = BitVec.ofNat 32 z.val := by
  obtain ⟨h0, h1⟩ := IntOp.andi_eq_one.1 h
  have h0' : (0 : Int) ≤ w.toInt := by
    simpa [BitVec.sle] using true_of_ofBool _ h0
  have h1' : w.toInt < 100 := by
    simpa [BitVec.slt] using true_of_ofBool _ h1
  have hw : w.toNat < 100 := by
    rw [BitVec.toInt_eq_toNat_cond] at h0' h1'
    split at h0' <;> omega
  exact ⟨⟨w.toNat, hw⟩, by simp⟩

/-- What holds of arguments that the precondition admits. -/
theorem admitted (x0 x1 : FVec Ideal S128x32x3 .f32) (x2 : IVec S128x32 32) (x3 : FVec Ideal S2x100x64 .f32) (x4 : FVec Ideal S2x2x25x64 .f32)
    (x5 : FVec Ideal S2x2x64 .f32) (x6 : FVec Ideal S2x2x64x64 .f32) (x7 : FVec Ideal S2x2x64 .f32) (x8 x9 : FVec Ideal S2x2x64x64 .f32)
    (x10 : FVec Ideal S2x2x64 .f32) (x11 : FVec Ideal S2x2x64x64 .f32) (x12 : FVec Ideal S2x2x64 .f32) (x13 : FVec Ideal S2x64x32 .f32)
    (x14 : FVec Ideal S2x32 .f32) (x15 : FVec Ideal S2x32x1 .f32) (x16 : FVec Ideal S2x1 .f32)
    (h : fn (F := Ideal) x0 x1 x2 x3 x4 x5 x6 x7 x8 x9 x10 x11 x12 x13 x14 x15 x16 = fun _ => 1#1) :
    ∃ z : Fin 128 → Fin 32 → Fin 100, Admitted z x2 x5 x7 x10 x12 x14 x16 := by
  have e := congrFun h (fun a => a.elim0)
  simp only [fn, fn_part1, andi] at e
  obtain ⟨e, e16⟩ := IntOp.andi_eq_one.1 e
  obtain ⟨e, e14⟩ := IntOp.andi_eq_one.1 e
  obtain ⟨e, e12⟩ := IntOp.andi_eq_one.1 e
  obtain ⟨e, e10⟩ := IntOp.andi_eq_one.1 e
  obtain ⟨e, e7⟩ := IntOp.andi_eq_one.1 e
  obtain ⟨e2, e5⟩ := IntOp.andi_eq_one.1 e
  have hz (b : Fin 128) (i : Fin 32) : ∃ z : Fin 100, x2 (ix2 b i) = BitVec.ofNat 32 z.val :=
    index_of_cmp _ (Host.reduce_andi_all _ _ _ _ _ e2 (ix2 b i))
  choose z hz using hz
  exact ⟨z, hz, fun y => zero_of_cmp _ (Host.reduce_andi_all _ _ _ _ _ e5 y), fun y => zero_of_cmp _ (Host.reduce_andi_all _ _ _ _ _ e7 y),
    fun y => zero_of_cmp _ (Host.reduce_andi_all _ _ _ _ _ e10 y), fun y => zero_of_cmp _ (Host.reduce_andi_all _ _ _ _ _ e12 y),
    fun y => zero_of_cmp _ (Host.reduce_andi_all _ _ _ _ _ e14 y), fun y => (finite_of_cmp _ (Host.reduce_andi_all _ _ _ _ _ e16 y)).1,
    fun y => (finite_of_cmp _ (Host.reduce_andi_all _ _ _ _ _ e16 y)).2⟩

end Cert.Proof.Pre

end
-- ==== Proof.Block.lean ====
/- One grid point's block of results, read at an index: whatever the input blocks hold, if they hold one net's weights in
   the packed layout, the block is the difference of the two energies of `Spec`. -/
module

public import proofs.«01_k».proof.Proof.Gen.KernelIdeal.Frame
public import Idealize.ShloMosaic.Lib.Pointwise
public import proofs.«01_k».proof.Proof.Spec

@[expose] public section

set_option maxRecDepth 16384

noncomputable section

namespace Cert.Proof.Block

open Idealize.ShloMosaic Idealize.ShloMosaic.Pointwise Cert.KernelIdeal Cert.KernelIdeal.Gen
open Cert.Proof.Spec

/-- The row of atom `i` of the block's molecule `s` (the first eight molecules are the states, the others their
successors). -/
abbrev row (s : Fin 16) (i : Fin 32) : Fin 512 := ⟨s.val * 32 + i.val, by omega⟩

/-- The row of the pair `i`, `j` of atoms of molecule `s`. -/
abbrev pair (s : Fin 16) (i j : Fin 32) : Fin 16384 := ⟨s.val * 1024 + i.val * 32 + j.val, by omega⟩

/-- Lane `f` of layer `l`'s half of the 128 packed lanes. -/
abbrev lane (l : Fin 2) (f : Fin 64) : Fin 128 := ⟨l.val * 64 + f.val, by omega⟩

/-- A row's molecule. -/
theorem row_div (s : Fin 16) (i : Fin 32) : (s.val * 32 + i.val) / 32 = s.val := by omega

/-- A row's atom. -/
theorem row_mod (s : Fin 16) (i : Fin 32) : (s.val * 32 + i.val) % 32 = i.val := by omega

/-- A sum over the packed lanes is a sum over the halves. -/
theorem sum_lane (F : Fin 128 → EReal) : ∑ c, F c = ∑ l : Fin 2, ∑ f : Fin 64, F (lane l f) := by
  rw [Fin.sum_univ_two, show (∑ c, F c) = ∑ c : Fin (64 + 64), F c from rfl, Fin.sum_univ_add]
  refine congrArg₂ (· + ·) (Finset.sum_congr rfl fun f _ => congrArg F (Fin.ext ?_)) (Finset.sum_congr rfl fun f _ => congrArg F (Fin.ext ?_))
  · show f.val = 0 * 64 + f.val; omega
  · show 64 + f.val = 1 * 64 + f.val; omega

/-- The kernel's softplus less the named constant, at a number, is the shared one. -/
theorem ssp_eq (x : Ideal .f32) :
    max x 0 + Ideal.log1p (Ideal.exp (0 - FloatOps.absf x)) - Named.named (F := Ideal) κ "log2" 1060205080#32 = ssp x := by
  have h : Named.named (F := Ideal) (φ := .f32) κ "log2" 1060205080#32 = ((Real.log 2 : ℝ) : EReal) :=
    IdealRules.named_const.ideal_named_scalar _ _ _ _ rfl
  unfold ssp
  rw [h, Ideal.absf_def]
  rw [show (0 : EReal) - max x (-x) = -max x (-x) from zero_sub _]

/-- A decided bit widened and converted to a float is the indicator. -/
theorem bit_eq (b : Prop) [Decidable b] :
    FloatOps.sitofp (F := Ideal) .f32 (BitVec.setWidth 32 (BitVec.ofBool (decide b))) = bit b := by
  unfold bit
  by_cases h : b <;> simp [h, FloatOps.sitofp]

/-- The layout of one net's weights and of the basis in the kernel's input blocks. -/
structure Packed (x2 : Vec Ideal S1x128x64 .f32) (x3 : Vec Ideal S1x32 .f32) (x4 : Vec Ideal S1x1 .f32) (x5 : Vec Ideal S1x32x128 .f32)
    (x6 : Vec Ideal S1x128x128 .f32) (x7 : Vec Ideal S1x2x64x128 .f32) (x8 : Vec Ideal S1x2x128x64 .f32) (x9 : Vec Ideal S1x2x64x64 .f32)
    (x10 : Vec Ideal S1x64x32 .f32) (x11 : Vec Ideal S1x32x1 .f32) (N : Net) (G : Basis) : Prop where
  emb : ∀ (z : Fin 100) (a : Fin 64), x2 (ix3 0 (z.castLE (by omega)) a) = N.emb z a
  off : ∀ g : Fin 25, x3 (ix2 0 (g.castLE (by omega))) = G.off g
  width : x4 (ix2 0 0) = G.width
  fw1 : ∀ (g : Fin 25) (l : Fin 2) (h : Fin 64), x5 (ix3 0 (g.castLE (by omega)) (lane l h)) = N.fw1 l g h
  fw1_pad : ∀ (g : Fin 32) (c : Fin 128), 25 ≤ g.val → x5 (ix3 0 g c) = 0
  fw2 : ∀ (l : Fin 2) (h : Fin 64) (l' : Fin 2) (f : Fin 64), x6 (ix3 0 (lane l h) (lane l' f)) = if l = l' then N.fw2 l' h f else 0
  in2f : ∀ (l : Fin 2) (a : Fin 64) (l' : Fin 2) (f : Fin 64), x7 (ix4 0 l a (lane l' f)) = if l' = l then N.in2f l a f else 0
  f2out : ∀ (l l' : Fin 2) (f h : Fin 64), x8 (ix4 0 l (lane l' f) h) = if l' = l then N.f2out l f h else 0
  dw : ∀ (l : Fin 2) (h a : Fin 64), x9 (ix4 0 l h a) = N.dw l h a
  ow1 : ∀ (a : Fin 64) (h : Fin 32), x10 (ix3 0 a h) = N.ow1 a h
  ow2 : ∀ h : Fin 32, x11 (ix3 0 h 0) = N.ow2 h

/-- The positions of the block's molecule `s`. -/
def pos (x0 : Vec Ideal S2x8x3x32 .f32) (s : Fin 16) (i : Fin 32) (k : Fin 3) : EReal :=
  x0 (ix4 ⟨s.val / 8, by omega⟩ ⟨s.val % 8, by omega⟩ k i)

/-- The kernel's distances. -/
theorem dist_eq (x0 : Vec Ideal S2x8x3x32 .f32) (s : Fin 16) (i j : Fin 32) :
    k0_pay8 (k0_pay5 (View.ld x0 r0_5)) (k0_pay6 (View.ld x0 r0_6)) (k0_pay7 (View.ld x0 r0_4)) (ix3 s i j) = dist (pos x0 s) i j := by
  pointwise [k0_pay8, k0_pay5, k0_pay6, k0_pay7]
  unfold Spec.dist pos eps
  rw [Fin.sum_univ_three]

/-- The kernel's cutoff. -/
theorem cut_eq (a b : FVec Ideal S16x32 .f32) (c : FVec Ideal S16x32x32 .f32) (p : Fin 32 → Fin 3 → EReal) (s : Fin 16)
    (hd : ∀ i j, k0_pay8 a b c (ix3 s i j) = dist p i j) (i j : Fin 32) :
    k0_pay9 (k0_pay4 (F := Ideal)) a b c (ix3 s i j) = cut p i j := by
  pointwise [k0_pay9, k0_pay4]
  rw [hd, bit_eq, show IntOp.cmpi CmpIPredicate.ne (BitVec.ofNat 32 i.val) (BitVec.ofNat 32 j.val) = BitVec.ofBool (decide (i ≠ j)) from ?_, bit_eq]
  · rfl
  · have h : BitVec.ofNat 32 i.val = BitVec.ofNat 32 j.val ↔ i = j := by
      rw [← BitVec.toNat_inj, Fin.ext_iff, BitVec.toNat_ofNat, BitVec.toNat_ofNat]
      omega
    show BitVec.ofBool (BitVec.ofNat 32 i.val != BitVec.ofNat 32 j.val) = _
    rw [bne, beq_eq_decide]
    simp only [h, ne_eq, decide_not]

/-- The kernel's radial basis. -/
theorem gauss_eq (v14 : FVec Ideal S1x1x1x32 .f32) (w : Ideal .f32) (a b : FVec Ideal S16x32 .f32) (c : FVec Ideal S16x32x32 .f32)
    (p : Fin 32 → Fin 3 → EReal) (s : Fin 16) (hd : ∀ i j, k0_pay8 a b c (ix3 s i j) = dist p i j) (i j g : Fin 32) :
    k0_pay10 v14 w a b c (ix2 (pair s i j) g) = gauss (v14 (ix4 0 0 0 g)) w (dist p i j) := by
  pointwise [k0_pay10]
  rw [show (ix3 (⟨(pair s i j).val / 1024, by omega⟩ : Fin 16) (⟨(pair s i j).val / 32 % 32, by omega⟩ : Fin 32) (⟨(pair s i j).val % 32, by omega⟩ : Fin 32)) = ix3 s i j from ?_, hd]
  · rfl
  · congr 1 <;> exact Fin.ext (by show _ = _; dsimp only; omega)

variable {x2 : Vec Ideal S1x128x64 .f32} {x3 : Vec Ideal S1x32 .f32} {x4 : Vec Ideal S1x1 .f32} {x5 : Vec Ideal S1x32x128 .f32}
  {x6 : Vec Ideal S1x128x128 .f32} {x7 : Vec Ideal S1x2x64x128 .f32} {x8 : Vec Ideal S1x2x128x64 .f32} {x9 : Vec Ideal S1x2x64x64 .f32}
  {x10 : Vec Ideal S1x64x32 .f32} {x11 : Vec Ideal S1x32x1 .f32} {N : Net} {G : Basis}
  (K : Packed x2 x3 x4 x5 x6 x7 x8 x9 x10 x11 N G)
include K

/-- A radial basis contracted with the packed first filter layer: the padding rows contribute nothing. -/
theorem basis_sum (e : Fin 32 → EReal) (l : Fin 2) (h : Fin 64) :
    ∑ g : Fin 32, e g * x5 (ix3 0 g (lane l h)) = ∑ g : Fin 25, e (g.castLE (by omega)) * N.fw1 l g h := by
  rw [show (∑ g : Fin 32, e g * x5 (ix3 0 g (lane l h))) = ∑ g : Fin (25 + 7), e g * x5 (ix3 0 g (lane l h)) from rfl, Fin.sum_univ_add,
    Finset.sum_eq_zero (s := (Finset.univ : Finset (Fin 7))) (fun g _ => by
      rw [K.fw1_pad _ _ (show 25 ≤ 25 + g.val by omega), mul_zero]), add_zero]
  exact Finset.sum_congr rfl fun g _ => congrArg (e _ * ·) (K.fw1 g l h)

/-- The packed filters, both layers side by side, are the shared ones. -/
theorem filter_eq (v73 : FVec Ideal S16x32x32 .f32) (v84 : FVec Ideal S16384x32 .f32) (p : Fin 32 → Fin 3 → EReal) (s : Fin 16) (i j : Fin 32)
    (h73 : v73 (ix3 s i j) = cut p i j)
    (h84 : ∀ g : Fin 25, v84 (ix2 (pair s i j) (g.castLE (by omega))) = gauss (G.off g) G.width (dist p i j)) (l : Fin 2) (f : Fin 64) :
    k0_pay11 v73 v84 (View.ld x5 r0_7) (View.ld x6 r0_8) (ix4 s i j (lane l f)) = filter N G p l i j f := by
  pointwise [k0_pay11]
  simp only [ssp_eq]
  unfold filter
  rw [h73, sum_lane, Finset.sum_eq_single l]
  · refine congrArg (· * _) (Finset.sum_congr rfl fun h _ => ?_)
    rw [K.fw2, if_pos rfl, basis_sum K (fun g => v84 (ix2 (pair s i j) g))]
    simp only [h84]
  · intro l' _ hl
    refine Finset.sum_eq_zero fun h _ => ?_
    rw [K.fw2, if_neg hl, mul_zero]
  · exact fun h => absurd (Finset.mem_univ _) h

/-- Layer `l`'s convolution and its map out of the filters, over the packed lanes: the other layer's lanes contribute
nothing. -/
theorem conv_sum (p : Fin 32 → Fin 3 → EReal) (l : Fin 2) (i : Fin 32) (W : Fin 32 → Fin 128 → EReal) (X x : Fin 32 → Fin 64 → EReal)
    (hW : ∀ j l f, W j (lane l f) = filter N G p l i j f) (hX : ∀ j a, X j a = x j a) (h : Fin 64) :
    ∑ c : Fin 128, (∑ j : Fin 32, W j c * ∑ a : Fin 64, X j a * x7 (ix4 0 l a c)) * x8 (ix4 0 l c h)
      = ∑ f : Fin 64, conv N G p l x i f * N.f2out l f h := by
  rw [sum_lane, Finset.sum_eq_single l]
  · refine Finset.sum_congr rfl fun f _ => ?_
    unfold conv
    rw [K.f2out, if_pos rfl]
    simp only [hW, hX, K.in2f, if_pos]
  · intro l' _ hl
    refine Finset.sum_eq_zero fun h _ => ?_
    rw [K.f2out, if_neg hl, mul_zero]
  · exact fun h => absurd (Finset.mem_univ _) h

/-- The first layer's convolution, mapped out of the filters. -/
theorem conv0_eq (v11 : FVec Ideal S512x64 .f32) (v73 : FVec Ideal S16x32x32 .f32) (v84 : FVec Ideal S16384x32 .f32) (p : Fin 32 → Fin 3 → EReal)
    (x : Fin 32 → Fin 64 → EReal) (s : Fin 16) (hx : ∀ i a, v11 (ix2 (row s i) a) = x i a)
    (hW : ∀ i j l f, k0_pay11 v73 v84 (View.ld x5 r0_7) (View.ld x6 r0_8) (ix4 s i j (lane l f)) = filter N G p l i j f)
    (i : Fin 32) (h : Fin 64) :
    k0_pay12 v11 v73 v84 (View.ld x5 r0_7) (View.ld x6 r0_8) (View.ld x7 r0_9) (View.ld x8 r0_10) (ix2 (row s i) h)
      = ∑ f : Fin 64, conv N G p 0 x i f * N.f2out 0 f h := by
  generalize hw : k0_pay11 v73 v84 (View.ld x5 r0_7) (View.ld x6 r0_8) = W at hW
  pointwise [k0_pay12, hw]
  simp only [row_div, row_mod]
  exact conv_sum K p 0 i (fun j c => W (ix4 s i j c)) (fun j a => v11 (ix2 (row s j) a)) x (hW i) hx h

/-- The first layer. -/
theorem layer0_eq (v11 v124 : FVec Ideal S512x64 .f32) (p : Fin 32 → Fin 3 → EReal) (x : Fin 32 → Fin 64 → EReal) (s : Fin 16)
    (hx : ∀ i a, v11 (ix2 (row s i) a) = x i a)
    (hy : ∀ i h, v124 (ix2 (row s i) h) = ∑ f : Fin 64, conv N G p 0 x i f * N.f2out 0 f h) (i : Fin 32) (a : Fin 64) :
    k0_pay13 v11 v124 (View.ld x9 r0_11) (ix2 (row s i) a) = layer N G p 0 x i a := by
  pointwise [k0_pay13]
  simp only [ssp_eq]
  simp only [hx, hy, K.dw]
  rfl

/-- The second layer's convolution, mapped out of the filters. -/
theorem conv1_eq (v11 v124 : FVec Ideal S512x64 .f32) (W : FVec Ideal S16x32x32x128 .f32) (p : Fin 32 → Fin 3 → EReal)
    (x : Fin 32 → Fin 64 → EReal) (s : Fin 16) (hx : ∀ i a, k0_pay13 v11 v124 (View.ld x9 r0_11) (ix2 (row s i) a) = x i a)
    (hW : ∀ i j l f, W (ix4 s i j (lane l f)) = filter N G p l i j f) (i : Fin 32) (h : Fin 64) :
    k0_pay14 v11 W v124 (View.ld x9 r0_11) (View.ld x7 r0_12) (View.ld x8 r0_13) (ix2 (row s i) h)
      = ∑ f : Fin 64, conv N G p 1 x i f * N.f2out 1 f h := by
  generalize hX : k0_pay13 v11 v124 (View.ld x9 r0_11) = X at hx
  pointwise [k0_pay14, hX]
  simp only [row_div, row_mod]
  exact conv_sum K p 1 i (fun j c => W (ix4 s i j c)) (fun j a => X (ix2 (row s j) a)) x (hW i) hx h

/-- The embedding of the atoms, picked out of the padded table by the product with the indicator of its row. -/
theorem emb_eq (x1 : Vec Ideal S8x32 .i32) (z : Fin 16 → Fin 32 → Fin 100)
    (hz : ∀ s i, x1 (ix2 (⟨s.val % 8, by omega⟩ : Fin 8) i) = BitVec.ofNat 32 (z s i).val) (s : Fin 16) (i : Fin 32) (a : Fin 64) :
    k0_pay1 (View.ld x1 r0_0) (View.ld x2 r0_1) (ix2 (row s i) a) = N.emb (z s i) a := by
  have hcmp (u v : BitVec 32) : IntOp.cmpi CmpIPredicate.eq u v = BitVec.ofBool (decide (u = v)) := by
    show BitVec.ofBool (u == v) = _
    rw [beq_eq_decide]
  have key : ∑ c : Fin 128, FloatOps.sitofp (F := Ideal) .f32 (BitVec.setWidth 32 (IntOp.cmpi CmpIPredicate.eq (BitVec.ofNat 32 (z s i).val) (BitVec.ofNat 32 c.val)))
      * x2 (ix3 0 c a) = N.emb (z s i) a := by
    simp only [hcmp, bit_eq]
    rw [Finset.sum_eq_single ((z s i).castLE (by omega) : Fin 128)]
    · rw [bit, Fin.val_castLE, if_pos rfl, one_mul, K.emb]
    · intro c _ hc
      have : ¬ (BitVec.ofNat 32 (z s i).val = BitVec.ofNat 32 c.val) := by
        rw [← BitVec.toNat_inj, BitVec.toNat_ofNat, BitVec.toNat_ofNat]
        have : c.val ≠ (z s i).val := fun h => hc (Fin.ext h)
        omega
      rw [bit, if_neg this, zero_mul]
    · exact fun h => absurd (Finset.mem_univ _) h
  rw [← hz s i] at key
  pointwise [k0_pay1]
  split
  · rename_i h
    simp only [row_div, row_mod]
    simp only [show s.val % 8 = s.val by omega] at key
    exact key
  · rename_i h
    simp only [show (s.val * 32 + i.val - 256) / 32 = s.val % 8 by omega, show (s.val * 32 + i.val - 256) % 32 = i.val by omega]
    exact key

/-- The head of the second layer's features, summed over each molecule's atoms, the successor's sum taken from the state's. -/
theorem head_eq (v140 v158 v163 : FVec Ideal S512x64 .f32) (p : Fin 16 → Fin 32 → Fin 3 → EReal) (x y : Fin 16 → Fin 32 → Fin 64 → EReal)
    (hx : ∀ s i a, v140 (ix2 (row s i) a) = layer N G (p s) 0 (x s) i a)
    (hy : ∀ s i h, v158 (ix2 (row s i) h) + v163 (ix2 (row s i) h) - Named.named (F := Ideal) κ "log2" 1060205080#32 = ssp (y s i h))
    (hv : ∀ s i h, y s i h = ∑ f : Fin 64, conv N G (p s) 1 (layer N G (p s) 0 (x s)) i f * N.f2out 1 f h) (r : Fin 8) :
    k0_pay17 v140 v158 v163 (View.ld x9 r0_14) (View.ld x10 r0_15) (View.ld x11 r0_16) (ix4 0 0 r 0)
      = (∑ i : Fin 32, atom N (layer N G (p ⟨r.val, by omega⟩) 1 (layer N G (p ⟨r.val, by omega⟩) 0 (x ⟨r.val, by omega⟩)) i))
        - ∑ i : Fin 32, atom N (layer N G (p ⟨8 + r.val, by omega⟩) 1 (layer N G (p ⟨8 + r.val, by omega⟩) 0 (x ⟨8 + r.val, by omega⟩)) i) := by
  have hs (s : Fin 16) (i : Fin 32) (a : Fin 64) : v140 (ix2 (row s i) a) + ∑ h : Fin 64, (v158 (ix2 (row s i) h) + v163 (ix2 (row s i) h)
      - Named.named (F := Ideal) κ "log2" 1060205080#32) * x9 (ix4 0 1 h a) = layer N G (p s) 1 (layer N G (p s) 0 (x s)) i a := by
    simp only [hx, hy, hv, K.dw]
    rfl
  have hs0 := hs ⟨r.val, by omega⟩
  have hs1 := hs ⟨8 + r.val, by omega⟩
  pointwise [k0_pay17]
  simp only [ssp_eq]
  dsimp only [row] at hs0 hs1
  simp only [hs0, hs1, K.ow1, K.ow2]
  rfl

/-- The block of results: row `r` is the energy of the block's state `r` less that of its successor. -/
theorem out_eq (x0 : Vec Ideal S2x8x3x32 .f32) (x1 : Vec Ideal S8x32 .i32) (z : Fin 16 → Fin 32 → Fin 100)
    (hz : ∀ s i, x1 (ix2 (⟨s.val % 8, by omega⟩ : Fin 8) i) = BitVec.ofNat 32 (z s i).val) (r : Fin 8) :
    out0_12 x0 x1 x2 x3 x4 x5 x6 x7 x8 x9 x10 x11 (ix4 0 0 r 0)
      = energy N G (pos x0 ⟨r.val, by omega⟩) (z ⟨r.val, by omega⟩) - energy N G (pos x0 ⟨8 + r.val, by omega⟩) (z ⟨8 + r.val, by omega⟩) := by
  unfold_out out0_12
  rw [View.canon_unit_zero (by decide)]
  have hd := dist_eq x0
  have hc s := cut_eq _ _ _ (pos x0 s) s (hd s)
  have hg s i j (g : Fin 25) := (gauss_eq (k0_pay2 (View.ld x3 r0_2)) (k0_pay3 (View.ld x4 r0_3)) _ _ _ (pos x0 s) s (hd s) i j (g.castLE (by omega))).trans
    (show _ = gauss (G.off g) G.width (dist (pos x0 s) i j) by
      rw [← K.off, ← K.width]; pointwise [k0_pay2, k0_pay3])
  have hf s i j l f := filter_eq K _ _ (pos x0 s) s i j (hc s i j) (hg s i j) l f
  have hx s i a := emb_eq K x1 z hz s i a
  have h0 s i h := conv0_eq K _ _ _ (pos x0 s) _ s (hx s) (hf s) i h
  have h1 s i a := layer0_eq K _ _ (pos x0 s) _ s (hx s) (h0 s) i a
  have h2 s i h := conv1_eq K _ _ _ (pos x0 s) _ s (h1 s) (hf s) i h
  refine head_eq K _ _ _ (pos x0) _ _ h1 (fun s i h => ?_) (fun s i h => h2 s i h) r
  pointwise [k0_pay15, k0_pay16]
  exact ssp_eq _

end Cert.Proof.Block

end
-- ==== Proof.Host.lean ====
/- What the host operations before the region leave in the arrays that the kernel's windows read, at an index: the stacked
   positions, and the weights packed so that the two layers lie side by side. -/
module

public import proofs.«01_k».proof.Proof.Gen.KernelIdeal.Frame
public import Idealize.ShloMosaic.Lib.Pointwise
public import Idealize.ShloMosaic.Lib.StableHlo.ReadAt
public import Idealize.ShloMosaic.Lib.Routing.OpsSet
public import proofs.«01_k».proof.Proof.Block

@[expose] public section

set_option maxRecDepth 16384

noncomputable section

namespace Cert.Proof.Host

open Idealize.ShloMosaic Idealize.ShloMosaic.TcCoe Idealize.ShloMosaic.Pointwise Cert.KernelIdeal Cert.KernelIdeal.Gen
open Idealize.ShloMosaic.Routing Cert.Proof.Block

/-! ## A scatter that sets one block -/

section Scatter

variable {α : Type} {s si u : Shape} (d : ScatterDims s si u) (x0 : s.Idx → α) (idx : IVec si 32) (upd : u.Idx → α) (w : BitVec 32)

/-- Where the window starts when every index word is `w`. -/
def origin (a : Fin s.rank) : Int := if a ∈ d.scatterDimsToOperandDims then w.toInt else 0

/-- The start of the window, every index word being `w`. -/
theorem start_eq (hw : ∀ i, idx i = w) (k : u.Idx) (a : Fin s.rank) : d.start k idx a = origin d w a := by
  unfold ScatterDims.start origin
  split
  · rw [hw]
  · rfl

/-- An element of the block that is set holds the update's element. -/
theorem scatter_hit (hw : ∀ i, idx i = w) (hinj : ∀ k k' : u.Idx, (∀ a, d.window k a = d.window k' a) → k = k') (ι : s.Idx) (k : u.Idx)
    (hk : ∀ a, origin d w a + (d.window k a : Int) = ((ι a).val : Int)) : Host.scatter d (fun _ b => b) x0 idx upd ι = upd k := by
  refine scatter_set_hit d x0 idx upd ι _ (fun k' h => ?_) k ((resultIdx?_eq_some d k idx ι).2 fun a => by rw [start_eq d idx w hw]; exact hk a)
  rw [resultIdx?_eq_some] at h
  refine congrArg upd (hinj k' k fun a => ?_)
  have h1 := h a
  have h2 := hk a
  rw [start_eq d idx w hw] at h1
  omega

/-- An element outside the block that is set keeps its value. -/
theorem scatter_miss (hw : ∀ i, idx i = w) (ι : s.Idx) (a : Fin s.rank)
    (h : ∀ k, origin d w a + (d.window k a : Int) ≠ ((ι a).val : Int)) : Host.scatter d (fun _ b => b) x0 idx upd ι = x0 ι := by
  refine scatter_set_miss d x0 idx upd ι fun k hk => h k ?_
  rw [resultIdx?_eq_some] at hk
  have := hk a
  rwa [start_eq d idx w hw] at this

end Scatter

/-! ## The packed lanes -/

/-- A choice by the half that a packed lane lies in. -/
theorem lane_choice {α : Type} (l : Fin 2) (h : Fin 64) (A B : Fin 64 → α) :
    (if hq : l.val * 64 + h.val < 64 then A ⟨l.val * 64 + h.val, hq⟩ else B ⟨l.val * 64 + h.val - 64, by omega⟩) = if l = 0 then A h else B h := by
  match l with
  | ⟨0, _⟩ => exact (dif_pos (show 0 * 64 + h.val < 64 by omega)).trans (congrArg A (Fin.ext (by show 0 * 64 + h.val = h.val; omega)))
  | ⟨1, _⟩ => exact (dif_neg (show ¬ 1 * 64 + h.val < 64 by omega)).trans (congrArg B (Fin.ext (by show 1 * 64 + h.val - 64 = h.val; omega)))

/-- Two rows, each zero outside its own half of the lanes. -/
theorem lane_diagonal {α : Type} (l l' : Fin 2) (f : Fin 64) (A : Fin 2 → Fin 64 → α) (z : α) :
    (if _ : l.val < 1 then if h : l'.val * 64 + f.val < 64 then A 0 ⟨l'.val * 64 + f.val, h⟩ else z
      else if _ : l'.val * 64 + f.val < 64 then z else A 1 ⟨l'.val * 64 + f.val - 64, by omega⟩) = if l' = l then A l f else z := by
  match l with
  | ⟨0, _⟩ => exact (dif_pos Nat.zero_lt_one).trans (lane_choice l' f (A 0) fun _ => z)
  | ⟨1, _⟩ =>
    refine (dif_neg (Nat.lt_irrefl 1)).trans ((lane_choice l' f (fun _ => z) (A 1)).trans ?_)
    match l' with
    | ⟨0, _⟩ => rfl
    | ⟨1, _⟩ => rfl

/-- Two blocks on the diagonal. -/
theorem block_choice {α : Type} (l l' : Fin 2) (A : Fin 2 → α) (z : α) :
    (if l = 1 ∧ l' = 1 then A 1 else if l = 0 ∧ l' = 0 then A 0 else z) = if l = l' then A l' else z := by
  match l, l' with
  | ⟨0, _⟩, ⟨0, _⟩ => rfl
  | ⟨0, _⟩, ⟨1, _⟩ => rfl
  | ⟨1, _⟩, ⟨0, _⟩ => rfl
  | ⟨1, _⟩, ⟨1, _⟩ => rfl

/-! ## The arrays -/

variable (m : (ℓ : Loc nD τ sig) → Buf (Elt Ideal) ℓ) (c : Dev nD)

/-- An argument's array on device `c`, as launched. -/
abbrev arg (r : Ref sig .tc) : Buf (Elt Ideal) ((c : Thread nD τ).loc r) := m ((c : Thread nD τ).loc r)

/-- The centres, as the host operations compute them. -/
abbrev centres : Vec Ideal S25 .f32 := V m c main_v11

/-- The padded first filter layers. -/
abbrev padded : Vec Ideal S2x2x32x64 .f32 := V m c main_v10

/-- The matrix of zeros that the second filter weights are set in. -/
abbrev zeros : Vec Ideal S2x128x128 .f32 := V m c main_v28

/-- The stacked positions: the states, then the states moved by the actions. -/
theorem V_v4 (x y : Vec Ideal S128x32x3 .f32) (hx : x = arg m c main_arg0) (hy : y = arg m c main_arg1) (s : Fin 2) (b : Fin 128) (k : Fin 3)
    (i : Fin 32) : (V m c main_v4 : Vec Ideal S2x128x3x32 .f32) (ix4 s b k i) = if s.val < 1 then x (ix3 b i k) else x (ix3 b i k) + y (ix3 b i k) := by
  subst hx hy
  unfold V V0
  after_reads_at
  after_reads_at
  rfl

/-- The embedding table, in the first hundred of its padded rows. -/
theorem V_v7 (n : Fin 2) (z : Fin 100) (a : Fin 64) :
    V m c main_v7 (ix3 n (z.castLE (by omega)) a) = arg m c main_arg3 (ix3 n z a) := by
  unfold V V0
  after_reads_simp
  refine scatter_hit _ _ _ _ 0#32 (fun _ => rfl) (fun k k' h => ?_) _ (ix3 n z a) fun b => ?_
  · funext b
    match b with
    | ⟨0, _⟩ => exact Fin.ext (h 0)
    | ⟨1, _⟩ => exact Fin.ext (h 1)
    | ⟨2, _⟩ => exact Fin.ext (h 2)
  · match b with
    | ⟨0, _⟩ => exact Int.zero_add _
    | ⟨1, _⟩ => exact Int.zero_add _
    | ⟨2, _⟩ => exact Int.zero_add _

/-- The padded first filter layers: the layer's weights in the first 25 rows, zero in the others. -/
theorem V_v10 (n l : Fin 2) (g : Fin 32) (h : Fin 64) (w : Vec Ideal S2x2x25x64 .f32) (hx : w = arg m c main_arg4) :
    padded m c (ix4 n l g h) = if hg : g.val < 25 then w (ix4 n l ⟨g.val, hg⟩ h) else 0 := by
  subst hx
  unfold padded V V0
  after_reads_simp
  split
  · next hg =>
    refine scatter_hit _ _ _ _ 0#32 (fun _ => rfl) (fun k k' h => ?_) _ (ix4 n l ⟨g.val, hg⟩ h) fun b => ?_
    · funext b
      match b with
      | ⟨0, _⟩ => exact Fin.ext (h 0)
      | ⟨1, _⟩ => exact Fin.ext (h 1)
      | ⟨2, _⟩ => exact Fin.ext (h 2)
      | ⟨3, _⟩ => exact Fin.ext (h 3)
    · match b with
      | ⟨0, _⟩ => exact Int.zero_add _
      | ⟨1, _⟩ => exact Int.zero_add _
      | ⟨2, _⟩ => exact Int.zero_add _
      | ⟨3, _⟩ => exact Int.zero_add _
  · next hg =>
    refine (scatter_miss _ _ _ _ 0#32 (fun _ => rfl) _ 2 fun k h => hg ?_).trans ?_
    · have h1 : (0 : Int) + ((k 2).val : Int) = (g.val : Int) := h
      have h2 : (k 2).val < 25 := (k 2).isLt
      omega
    · pointwise

/-- The two layers' first filter weights side by side. -/
theorem V_v27 (n : Fin 2) (g : Fin 32) (l : Fin 2) (h : Fin 64) :
    V m c main_v27 (ix3 n g (lane l h)) = padded m c (ix4 n l g h) := by
  have key : V m c main_v27 (ix3 n g (lane l h)) = if hq : l.val * 64 + h.val < 64 then padded m c (ix4 n 0 g ⟨l.val * 64 + h.val, hq⟩)
      else padded m c (ix4 n 1 g ⟨l.val * 64 + h.val - 64, by omega⟩) := by
    unfold padded V V0
    after_reads_at
  rw [key, lane_choice l h (fun h => padded m c (ix4 n 0 g h)) (fun h => padded m c (ix4 n 1 g h))]
  match l with
  | ⟨0, _⟩ => rfl
  | ⟨1, _⟩ => rfl

/-- The index words of the scatters that place a block in a matrix. -/
theorem words : (∀ i, V m c main_v15 i = 0#32) ∧ (∀ i, V m c main_v33 i = 0#32) ∧ ∀ i, V m c main_v39 i = 64#32 := by
  have e : ∀ i : S2.Idx, ∃ k : Fin 2, i = ix1 k := fun i => ⟨i 0, funext fun a => match a with | ⟨0, _⟩ => rfl⟩
  refine ⟨fun i => ?_, fun i => ?_, fun i => ?_⟩
  all_goals
    obtain ⟨k, rfl⟩ := e i
    unfold V V0
    after_reads_at
    split <;> rfl

/-- The centres' padded row: its first 25 entries are the centres. -/
theorem V_v16 (g : Fin 25) : V m c main_v16 (ix2 0 (g.castLE (by omega))) = centres m c (ix1 g) := by
  have e : V m c main_v16 = Idealize.ShloMosaic.Host.scatter scatter_S1x32_S2_S25_0_0_01_0 (fun _ b => b) (V m c main_v12) (V m c main_v15) (centres m c) := by
    unfold centres V V0
    after_reads_simp
    rfl
  rw [e]
  refine scatter_hit _ _ _ _ 0#32 (words m c).1 (fun k k' h => ?_) _ (ix1 g) fun b => ?_
  · funext b
    match b with
    | ⟨0, _⟩ => exact Fin.ext (h 1)
  · match b with
    | ⟨0, _⟩ => rfl
    | ⟨1, _⟩ => exact Int.zero_add _

/-- The spacing of the first two centres. -/
theorem V_v22 : V m c main_v22 (ix2 0 0) = centres m c (ix1 1) - centres m c (ix1 0) := by
  have e : (V m c main_v22 : Vec Ideal S1x1 .f32) = shapeCast S1x1 (subf (shapeCast S_ (extractStridedSlice S1 ![1] (centres m c) slices_S25_S1_1) shapeCasts_S1_S_)
      (shapeCast S_ (extractStridedSlice S1 ![0] (centres m c) slices_S25_S1_0) shapeCasts_S1_S_) : FVec Ideal S_ .f32) shapeCasts_S_S1x1 := by
    unfold centres V V0
    after_reads_simp
    rfl
  rw [e]
  pointwise

/-- The placed block's window coordinates are the update's. -/
theorem block_inj (k k' : S2x64x64.Idx) (h : ∀ a, scatter_S2x128x128_S2_S2x64x64_012_n_12_0.window k a
    = scatter_S2x128x128_S2_S2x64x64_012_n_12_0.window k' a) : k = k' := by
  funext b
  match b with
  | ⟨0, _⟩ => exact Fin.ext (h 0)
  | ⟨1, _⟩ => exact Fin.ext (h 1)
  | ⟨2, _⟩ => exact Fin.ext (h 2)

/-- One layer's block set in a matrix of the packed lanes: layer `o`'s rows and lanes hold the block. -/
theorem block_set (o : Fin 2) (x : Vec Ideal S2x128x128 .f32) (idx : Vec Ideal S2 .i32) (hw : ∀ i, idx i = BitVec.ofNat 32 (o.val * 64))
    (u : Vec Ideal S2x64x64 .f32) (n l l' : Fin 2) (h f : Fin 64) :
    Idealize.ShloMosaic.Host.scatter scatter_S2x128x128_S2_S2x64x64_012_n_12_0 (fun _ b => b) x idx u (ix3 n (lane l h) (lane l' f))
      = if l = o ∧ l' = o then u (ix3 n h f) else x (ix3 n (lane l h) (lane l' f)) := by
  have ho : (BitVec.ofNat 32 (o.val * 64)).toInt = ((o.val * 64 : Nat) : Int) := by
    match o with
    | ⟨0, _⟩ => rfl
    | ⟨1, _⟩ => rfl
  split
  · next q =>
    obtain ⟨rfl, rfl⟩ := q
    refine scatter_hit _ _ _ _ _ hw block_inj _ (ix3 n h f) fun b => ?_
    match b with
    | ⟨0, _⟩ => exact Int.zero_add _
    | ⟨1, _⟩ => exact congrArg (· + (h.val : Int)) ho
    | ⟨2, _⟩ => exact congrArg (· + (f.val : Int)) ho
  · next q =>
    by_cases hl : l = o
    · refine scatter_miss _ _ _ _ _ hw _ 2 fun k e => q ⟨hl, Fin.ext ?_⟩
      have e1 : (BitVec.ofNat 32 (o.val * 64)).toInt + ((k 2).val : Int) = ((l'.val * 64 + f.val : Nat) : Int) := e
      have e2 : (k 2).val < 64 := (k 2).isLt
      omega
    · refine scatter_miss _ _ _ _ _ hw _ 1 fun k e => hl (Fin.ext ?_)
      have e1 : (BitVec.ofNat 32 (o.val * 64)).toInt + ((k 1).val : Int) = ((l.val * 64 + h.val : Nat) : Int) := e
      have e2 : (k 1).val < 64 := (k 1).isLt
      omega

/-- The matrix of second filter weights is zero with the two layers' blocks set in it. -/
theorem V_v40_eq : V m c main_v40 = Idealize.ShloMosaic.Host.scatter scatter_S2x128x128_S2_S2x64x64_012_n_12_0 (fun _ b => b)
    (Idealize.ShloMosaic.Host.scatter scatter_S2x128x128_S2_S2x64x64_012_n_12_0 (fun _ b => b) (zeros m c) (V m c main_v33) (V m c main_v30))
    (V m c main_v39) (V m c main_v36) := by
  unfold zeros V V0
  after_reads_simp

/-- The first layer's block. -/
theorem V_v30 (n : Fin 2) (h f : Fin 64) : (V m c main_v30 : Vec Ideal S2x64x64 .f32) (ix3 n h f) = (arg m c main_arg6 : Vec Ideal S2x2x64x64 .f32) (ix4 n 0 h f) := by
  unfold V V0
  after_reads_at

/-- The second layer's block. -/
theorem V_v36 (n : Fin 2) (h f : Fin 64) : (V m c main_v36 : Vec Ideal S2x64x64 .f32) (ix3 n h f) = (arg m c main_arg6 : Vec Ideal S2x2x64x64 .f32) (ix4 n 1 h f) := by
  unfold V V0
  after_reads_at

/-- The matrix of zeros, at an index. -/
theorem zeros_apply (n : Fin 2) (p q : Fin 128) : zeros m c (ix3 n p q) = 0 := by
  unfold zeros V V0
  after_reads_at

/-- The two layers' second filter weights, on the diagonal of a block matrix. -/
theorem V_v40 (n : Fin 2) (l : Fin 2) (h : Fin 64) (l' : Fin 2) (f : Fin 64) (w : Vec Ideal S2x2x64x64 .f32) (hx : w = arg m c main_arg6) :
    (V m c main_v40 : Vec Ideal S2x128x128 .f32) (ix3 n (lane l h) (lane l' f)) = if l = l' then w (ix4 n l' h f) else 0 := by
  refine (congrFun (V_v40_eq m c) _).trans ((block_set 1 _ _ (words m c).2.2 _ n l l' h f).trans ?_)
  rw [block_set 0 (zeros m c) _ (words m c).2.1 _ n l l' h f, zeros_apply]
  have e30 := V_v30 m c n h f
  have e36 := V_v36 m c n h f
  rw [← hx] at e30 e36
  generalize (V m c main_v30 : Vec Ideal S2x64x64 .f32) (ix3 n h f) = a at e30 ⊢
  generalize (V m c main_v36 : Vec Ideal S2x64x64 .f32) (ix3 n h f) = b at e36 ⊢
  subst e30 e36
  exact block_choice l l' (fun l => w (ix4 n l h f)) _

/-- Each layer's map into the filters, in its own half of the lanes. -/
theorem V_v50 (n : Fin 2) (l : Fin 2) (a : Fin 64) (l' : Fin 2) (f : Fin 64) (w : Vec Ideal S2x2x64x64 .f32) (hx : w = arg m c main_arg8) :
    (V m c main_v50 : Vec Ideal S2x2x64x128 .f32) (ix4 n l a (lane l' f)) = if l' = l then w (ix4 n l a f) else 0 := by
  subst hx
  unfold V V0
  after_reads_at
  after_reads_at
  exact lane_diagonal l l' f (fun l f => arg m c main_arg8 (ix4 n l a f)) _

/-- Each layer's map out of the filters, in its own half of the lanes. -/
theorem V_v60 (n : Fin 2) (l l' : Fin 2) (f h : Fin 64) (w : Vec Ideal S2x2x64x64 .f32) (hx : w = arg m c main_arg9) :
    (V m c main_v60 : Vec Ideal S2x2x128x64 .f32) (ix4 n l (lane l' f) h) = if l' = l then w (ix4 n l f h) else 0 := by
  subst hx
  unfold V V0
  after_reads_at
  after_reads_at
  exact lane_diagonal l l' f (fun l f => arg m c main_arg9 (ix4 n l f h)) _

end Cert.Proof.Host

end
-- ==== Proof.Blocks.lean ====
/- Where the blocks of each grid point sit: they are the windows' arrays read at the point's net and batch block. -/
module

public import proofs.«01_k».proof.Proof.Host
public import Idealize.ShloMosaic.Lib.Pipeline.Value

@[expose] public section

set_option maxRecDepth 16384

noncomputable section

namespace Cert.Proof.Array

open Idealize.ShloMosaic Idealize.ShloMosaic.TcCoe Idealize.ShloMosaic.Pointwise Idealize.SL.Sem Cert.KernelIdeal Cert.KernelIdeal.Gen
open Cert.Proof.Spec Cert.Proof.Block Cert.Proof.Host

variable (m : (ℓ : Loc nD τ sig) → Buf (Elt Ideal) ℓ) (c : Dev nD)

/-! ## The blocks -/

/-- The net that grid point `t` evaluates. -/
abbrev net (t : Fin cfg0.N) : Fin 2 := ⟨t.val / 16, by have := t.isLt; have : cfg0.N = 32 := N_0; omega⟩

/-- Grid point `t`'s block of the batch. -/
abbrev batch (t : Fin cfg0.N) : Fin 16 := ⟨t.val % 16, by omega⟩

/-- The molecule at place `r` of block `n` of the batch. -/
abbrev mol (n : Fin 16) (r : Fin 8) : Fin 128 := ⟨n.val * 8 + r.val, by omega⟩

/-- The block indices of the windows, over the whole grid. -/
theorem index_eq : ∀ t : Fin grid0.N,
    (win0_0.index t = ![0, t.val % 16, 0, 0] ∧ win0_1.index t = ![t.val % 16, 0] ∧ win0_2.index t = ![t.val / 16, 0, 0])
      ∧ (win0_3.index t = ![0, 0] ∧ win0_4.index t = ![0, 0] ∧ win0_5.index t = ![t.val / 16, 0, 0])
      ∧ (win0_6.index t = ![t.val / 16, 0, 0] ∧ win0_7.index t = ![t.val / 16, 0, 0, 0] ∧ win0_8.index t = ![t.val / 16, 0, 0, 0])
      ∧ (win0_9.index t = ![t.val / 16, 0, 0, 0] ∧ win0_10.index t = ![t.val / 16, 0, 0] ∧ win0_11.index t = ![t.val / 16, 0, 0])
      ∧ win0_12.index t = ![t.val / 16, t.val % 16, 0, 0] := by decide +kernel

/-- A coordinate in a block of index zero. -/
theorem off_zero (n x : Nat) : 0 * n + x = x := by omega

/-- A coordinate in a block of extent one. -/
theorem off_unit (n : Nat) : n * 1 + 0 = n := by omega

/-- An element of the block of positions. -/
theorem blk_0 (t : Fin cfg0.N) (s : Fin 2) (r : Fin 8) (k : Fin 3) (i : Fin 32) :
    iblk m c 0 t (ix4 s r k i) = V m c main_v4 (ix4 s (mol (batch t) r) k i) := by
  show V m c main_v4 ((win0_0.rect t).emb (ix4 s r k i)) = _
  refine congrArg _ (funext fun a => Fin.ext ((Pipeline.Window.rect_emb_val_off win0_0 t _ a).trans ?_))
  show win0_0.index t a * _ + _ = _
  rw [(index_eq t).1.1]
  match a with
  | ⟨0, _⟩ => exact off_zero _ _
  | ⟨1, _⟩ => rfl
  | ⟨2, _⟩ => exact off_zero _ _
  | ⟨3, _⟩ => exact off_zero _ _

/-- An element of the block of atomic numbers. -/
theorem blk_1 (t : Fin cfg0.N) (r : Fin 8) (i : Fin 32) : iblk m c 1 t (ix2 r i) = arg m c main_arg2 (ix2 (mol (batch t) r) i) := by
  refine Eq.trans ?_ (congrFun (V_main_arg2 m c) _)
  show V m c main_arg2 ((win0_1.rect t).emb (ix2 r i)) = _
  refine congrArg _ (funext fun a => Fin.ext ((Pipeline.Window.rect_emb_val_off win0_1 t _ a).trans ?_))
  show win0_1.index t a * _ + _ = _
  rw [(index_eq t).1.2.1]
  match a with
  | ⟨0, _⟩ => rfl
  | ⟨1, _⟩ => exact off_zero _ _

/-- An element of the block of the embedding table. -/
theorem blk_2 (t : Fin cfg0.N) (z : Fin 128) (a : Fin 64) : iblk m c 2 t (ix3 0 z a) = V m c main_v7 (ix3 (net t) z a) := by
  show V m c main_v7 ((win0_2.rect t).emb (ix3 0 z a)) = _
  refine congrArg _ (funext fun b => Fin.ext ((Pipeline.Window.rect_emb_val_off win0_2 t _ b).trans ?_))
  show win0_2.index t b * _ + _ = _
  rw [(index_eq t).1.2.2]
  match b with
  | ⟨0, _⟩ => exact off_unit _
  | ⟨1, _⟩ => exact off_zero _ _
  | ⟨2, _⟩ => exact off_zero _ _

/-- An element of the row of centres. -/
theorem blk_3 (t : Fin cfg0.N) (g : Fin 32) : iblk m c 3 t (ix2 0 g) = V m c main_v16 (ix2 0 g) := by
  show V m c main_v16 ((win0_3.rect t).emb (ix2 0 g)) = _
  refine congrArg _ (funext fun b => Fin.ext ((Pipeline.Window.rect_emb_val_off win0_3 t _ b).trans ?_))
  show win0_3.index t b * _ + _ = _
  rw [(index_eq t).2.1.1]
  match b with
  | ⟨0, _⟩ => exact off_zero _ _
  | ⟨1, _⟩ => exact off_zero _ _

/-- The spacing. -/
theorem blk_4 (t : Fin cfg0.N) : iblk m c 4 t (ix2 0 0) = V m c main_v22 (ix2 0 0) := by
  show V m c main_v22 ((win0_4.rect t).emb (ix2 0 0)) = _
  refine congrArg _ (funext fun b => Fin.ext ((Pipeline.Window.rect_emb_val_off win0_4 t _ b).trans ?_))
  show win0_4.index t b * _ + _ = _
  rw [(index_eq t).2.1.2.1]
  match b with
  | ⟨0, _⟩ => exact off_zero _ _
  | ⟨1, _⟩ => exact off_zero _ _

/-- An element of the block of first filter weights. -/
theorem blk_5 (t : Fin cfg0.N) (g : Fin 32) (q : Fin 128) : iblk m c 5 t (ix3 0 g q) = V m c main_v27 (ix3 (net t) g q) := by
  show V m c main_v27 ((win0_5.rect t).emb (ix3 0 g q)) = _
  refine congrArg _ (funext fun b => Fin.ext ((Pipeline.Window.rect_emb_val_off win0_5 t _ b).trans ?_))
  show win0_5.index t b * _ + _ = _
  rw [(index_eq t).2.1.2.2]
  match b with
  | ⟨0, _⟩ => exact off_unit _
  | ⟨1, _⟩ => exact off_zero _ _
  | ⟨2, _⟩ => exact off_zero _ _

/-- An element of the block of second filter weights. -/
theorem blk_6 (t : Fin cfg0.N) (p q : Fin 128) : iblk m c 6 t (ix3 0 p q) = V m c main_v40 (ix3 (net t) p q) := by
  show V m c main_v40 ((win0_6.rect t).emb (ix3 0 p q)) = _
  refine congrArg _ (funext fun b => Fin.ext ((Pipeline.Window.rect_emb_val_off win0_6 t _ b).trans ?_))
  show win0_6.index t b * _ + _ = _
  rw [(index_eq t).2.2.1.1]
  match b with
  | ⟨0, _⟩ => exact off_unit _
  | ⟨1, _⟩ => exact off_zero _ _
  | ⟨2, _⟩ => exact off_zero _ _

/-- An element of the block of maps into the filters. -/
theorem blk_7 (t : Fin cfg0.N) (l : Fin 2) (a : Fin 64) (q : Fin 128) : iblk m c 7 t (ix4 0 l a q) = V m c main_v50 (ix4 (net t) l a q) := by
  show V m c main_v50 ((win0_7.rect t).emb (ix4 0 l a q)) = _
  refine congrArg _ (funext fun b => Fin.ext ((Pipeline.Window.rect_emb_val_off win0_7 t _ b).trans ?_))
  show win0_7.index t b * _ + _ = _
  rw [(index_eq t).2.2.1.2.1]
  match b with
  | ⟨0, _⟩ => exact off_unit _
  | ⟨1, _⟩ => exact off_zero _ _
  | ⟨2, _⟩ => exact off_zero _ _
  | ⟨3, _⟩ => exact off_zero _ _

/-- An element of the block of maps out of the filters. -/
theorem blk_8 (t : Fin cfg0.N) (l : Fin 2) (q : Fin 128) (a : Fin 64) : iblk m c 8 t (ix4 0 l q a) = V m c main_v60 (ix4 (net t) l q a) := by
  show V m c main_v60 ((win0_8.rect t).emb (ix4 0 l q a)) = _
  refine congrArg _ (funext fun b => Fin.ext ((Pipeline.Window.rect_emb_val_off win0_8 t _ b).trans ?_))
  show win0_8.index t b * _ + _ = _
  rw [(index_eq t).2.2.1.2.2]
  match b with
  | ⟨0, _⟩ => exact off_unit _
  | ⟨1, _⟩ => exact off_zero _ _
  | ⟨2, _⟩ => exact off_zero _ _
  | ⟨3, _⟩ => exact off_zero _ _

/-- An element of the block of output layers. -/
theorem blk_9 (t : Fin cfg0.N) (l : Fin 2) (h a : Fin 64) : iblk m c 9 t (ix4 0 l h a) = arg m c main_arg11 (ix4 (net t) l h a) := by
  refine Eq.trans ?_ (congrFun (V_main_arg11 m c) _)
  show V m c main_arg11 ((win0_9.rect t).emb (ix4 0 l h a)) = _
  refine congrArg _ (funext fun b => Fin.ext ((Pipeline.Window.rect_emb_val_off win0_9 t _ b).trans ?_))
  show win0_9.index t b * _ + _ = _
  rw [(index_eq t).2.2.2.1.1]
  match b with
  | ⟨0, _⟩ => exact off_unit _
  | ⟨1, _⟩ => exact off_zero _ _
  | ⟨2, _⟩ => exact off_zero _ _
  | ⟨3, _⟩ => exact off_zero _ _

/-- An element of the block of the head's first layer. -/
theorem blk_10 (t : Fin cfg0.N) (a : Fin 64) (h : Fin 32) : iblk m c 10 t (ix3 0 a h) = arg m c main_arg13 (ix3 (net t) a h) := by
  refine Eq.trans ?_ (congrFun (V_main_arg13 m c) _)
  show V m c main_arg13 ((win0_10.rect t).emb (ix3 0 a h)) = _
  refine congrArg _ (funext fun b => Fin.ext ((Pipeline.Window.rect_emb_val_off win0_10 t _ b).trans ?_))
  show win0_10.index t b * _ + _ = _
  rw [(index_eq t).2.2.2.1.2.1]
  match b with
  | ⟨0, _⟩ => exact off_unit _
  | ⟨1, _⟩ => exact off_zero _ _
  | ⟨2, _⟩ => exact off_zero _ _

/-- An element of the block of the head's second layer. -/
theorem blk_11 (t : Fin cfg0.N) (h : Fin 32) : iblk m c 11 t (ix3 0 h 0) = arg m c main_arg15 (ix3 (net t) h 0) := by
  refine Eq.trans ?_ (congrFun (V_main_arg15 m c) _)
  show V m c main_arg15 ((win0_11.rect t).emb (ix3 0 h 0)) = _
  refine congrArg _ (funext fun b => Fin.ext ((Pipeline.Window.rect_emb_val_off win0_11 t _ b).trans ?_))
  show win0_11.index t b * _ + _ = _
  rw [(index_eq t).2.2.2.1.2.2]
  match b with
  | ⟨0, _⟩ => exact off_unit _
  | ⟨1, _⟩ => exact off_zero _ _
  | ⟨2, _⟩ => exact off_zero _ _

/-- Where an element of the block of results sits in the result array. -/
theorem emb_12 (t : Fin cfg0.N) (r : Fin 8) : (win0_12.rect t).emb (ix4 0 0 r 0) = ix4 (net t) (batch t) r 0 := by
  refine funext fun b => Fin.ext ((Pipeline.Window.rect_emb_val_off win0_12 t _ b).trans ?_)
  show win0_12.index t b * _ + _ = _
  rw [(index_eq t).2.2.2.2]
  match b with
  | ⟨0, _⟩ => exact off_unit _
  | ⟨1, _⟩ => exact off_unit _
  | ⟨2, _⟩ => exact off_zero _ _
  | ⟨3, _⟩ => exact off_zero _ _

end Cert.Proof.Array

end
-- ==== Proof.Array.lean ====
/- The result array after the run: each grid point's block of results is the differences of the energies of `Spec`. -/
module

public import proofs.«01_k».proof.Proof.Blocks
public import proofs.«01_k».proof.Proof.Result
public import Idealize.ShloMosaic.Lib.Pipeline.Value

@[expose] public section

set_option maxRecDepth 16384

noncomputable section

namespace Cert.Proof.Array

open Idealize.ShloMosaic Idealize.ShloMosaic.TcCoe Idealize.ShloMosaic.Pointwise Idealize.SL.Sem Cert.KernelIdeal Cert.KernelIdeal.Gen
open Cert.Proof.Spec Cert.Proof.Block Cert.Proof.Host

variable (m : (ℓ : Loc nD τ sig) → Buf (Elt Ideal) ℓ) (c : Dev nD)

/-- The windows' arrays are different buffers. -/
theorem arrays_inj : Function.Injective (Pipeline.arrRef spec0) := by decide +kernel

/-! ## The block of results -/

/-- The arguments that the energies depend on, as launched on device `c`. -/
def args : Args where
  states := arg m c main_arg0
  actions := arg m c main_arg1
  emb := arg m c main_arg3
  fw1 := arg m c main_arg4
  fw2 := arg m c main_arg6
  in2f := arg m c main_arg8
  f2out := arg m c main_arg9
  dw := arg m c main_arg11
  ow1 := arg m c main_arg13
  ow2 := arg m c main_arg15

/-- The blocks of grid point `t` hold the weights of its net. -/
theorem packed (t : Fin cfg0.N) :
    Packed (iblk m c 2 t) (iblk m c 3 t) (iblk m c 4 t) (iblk m c 5 t) (iblk m c 6 t) (iblk m c 7 t) (iblk m c 8 t) (iblk m c 9 t)
      (iblk m c 10 t) (iblk m c 11 t) ((args m c).net (net t)) (basis (centres m c)) where
  emb z a := (blk_2 m c t _ a).trans (V_v7 m c (net t) z a)
  off g := (blk_3 m c t _).trans (V_v16 m c g)
  width := (blk_4 m c t).trans (V_v22 m c)
  fw1 g l h := (blk_5 m c t _ _).trans ((V_v27 m c (net t) _ l h).trans
    ((V_v10 m c (net t) l _ h _ rfl).trans (dif_pos g.isLt)))
  fw1_pad g q hg := by
    have e : ∃ l h, q = lane l h := ⟨⟨q.val / 64, by omega⟩, ⟨q.val % 64, by omega⟩, Fin.ext (by show q.val = q.val / 64 * 64 + q.val % 64; omega)⟩
    obtain ⟨l, h, rfl⟩ := e
    exact (blk_5 m c t _ _).trans ((V_v27 m c (net t) _ l h).trans
      ((V_v10 m c (net t) l _ h _ rfl).trans (dif_neg (show ¬ g.val < 25 by omega))))
  fw2 l h l' f := (blk_6 m c t _ _).trans (V_v40 m c (net t) l h l' f _ rfl)
  in2f l a l' f := (blk_7 m c t _ _ _).trans (V_v50 m c (net t) l a l' f _ rfl)
  f2out l l' f h := (blk_8 m c t _ _ _).trans (V_v60 m c (net t) l l' f h _ rfl)
  dw l h a := blk_9 m c t l h a
  ow1 a h := blk_10 m c t a h
  ow2 h := blk_11 m c t h

/-- The first eight molecules of the block are the states. -/
theorem pos_before (t : Fin cfg0.N) (r : Fin 8) (h : r.val < 16) : pos (iblk m c 0 t) ⟨r.val, h⟩ = (args m c).before (mol (batch t) r) := by
  funext i k
  refine (blk_0 m c t _ _ k i).trans ((V_v4 m c _ _ rfl rfl _ _ k i).trans ?_)
  rw [if_pos (show r.val / 8 < 1 by omega)]
  exact congrArg (fun x : Fin 8 => (args m c).before (mol (batch t) x) i k) (Fin.ext (show r.val % 8 = r.val by omega))

/-- The others are the states moved by the actions. -/
theorem pos_after (t : Fin cfg0.N) (r : Fin 8) (h : 8 + r.val < 16) : pos (iblk m c 0 t) ⟨8 + r.val, h⟩ = (args m c).after (mol (batch t) r) := by
  funext i k
  refine (blk_0 m c t _ _ k i).trans ((V_v4 m c _ _ rfl rfl _ _ k i).trans ?_)
  rw [if_neg (show ¬ (8 + r.val) / 8 < 1 by omega)]
  exact congrArg (fun x : Fin 8 => (args m c).after (mol (batch t) x) i k) (Fin.ext (show (8 + r.val) % 8 = r.val by omega))

variable (z : Fin 128 → Fin 32 → Fin 100) (hz : ∀ b i, arg m c main_arg2 (ix2 b i) = BitVec.ofNat 32 (z b i).val)
include hz

/-- The block that grid point `t` leaves. -/
theorem out_eq (t : Fin cfg0.N) (r : Fin 8) :
    (dats m 0 c).after 12 t (ix4 0 0 r 0) = (args m c).result (basis (centres m c)) z (mol (batch t) r) (net t) := by
  rw [after0_12]
  refine (Block.out_eq (packed m c t) _ _ (fun s i => z (mol (batch t) ⟨s.val % 8, by omega⟩) i) (fun s i => ?_) r).trans ?_
  · exact (blk_1 m c t _ i).trans (hz _ i)
  · rw [pos_before, pos_after]
    have e1 : (⟨r.val % 8, by omega⟩ : Fin 8) = r := Fin.ext (Nat.mod_eq_of_lt r.isLt)
    have e2 : (⟨(8 + r.val) % 8, by omega⟩ : Fin 8) = r := Fin.ext (by show (8 + r.val) % 8 = r.val; omega)
    show energy _ _ _ (fun i => z (mol (batch t) ⟨r.val % 8, _⟩) i) - energy _ _ _ (fun i => z (mol (batch t) ⟨(8 + r.val) % 8, _⟩) i) = _
    rw [e1, e2]
    rfl

omit hz in
/-- The result array: at net `n`, block `k` of the batch and place `r`, the energy lost. -/
def final : Buf (Elt Ideal) ((c : Thread nD τ).loc main_v61) := fun i =>
  (args m c).result (basis (centres m c)) z (mol (i 1) (i 2)) (i 0)

omit hz in
/-- An index of a block of results is its place. -/
theorem idx_12 (y : S1x1x8x1.Idx) : y = ix4 0 0 (y 2) 0 := by
  funext a
  match a with
  | ⟨0, _⟩ => exact Fin.ext (Nat.lt_one_iff.mp (y 0).isLt)
  | ⟨1, _⟩ => exact Fin.ext (Nat.lt_one_iff.mp (y 1).isLt)
  | ⟨2, _⟩ => rfl
  | ⟨3, _⟩ => exact Fin.ext (Nat.lt_one_iff.mp (y 3).isLt)

/-- What grid point `t` writes back is its block of the result array. -/
theorem flushed_eq (t : Fin cfg0.N) : (dats m 0 c).flushed 12 t = ((cfg0.win 12).blk t).view.read (Elt Ideal) (final m c z) := by
  refine funext fun y => ?_
  obtain ⟨r, rfl⟩ : ∃ r : Fin 8, y = (ix4 0 0 r 0 : S1x1x8x1.Idx) := ⟨y 2, idx_12 y⟩
  show (dats m 0 c).after 12 t (ix4 0 0 r 0) = final m c z ((win0_12.rect t).emb (ix4 0 0 r 0))
  rw [emb_12]
  exact out_eq m c z hz t r

omit hz in
/-- The blocks of results tile the array. -/
theorem cover (i : S2x16x8x1.Idx) : ∃ t : Fin cfg0.N, (cfg0.win 12).flush t = true ∧ i ∈ ((cfg0.win 12).blk t).view.set := by
  have h0 : (i 0).val < 2 := (i 0).isLt
  have h1 : (i 1).val < 16 := (i 1).isLt
  have hN : cfg0.N = 32 := N_0
  obtain ⟨t, ht⟩ : ∃ t : Fin cfg0.N, t.val = (i 0).val * 16 + (i 1).val := ⟨⟨_, by omega⟩, rfl⟩
  refine ⟨t, flush0_12 t, ?_⟩
  have hi : i = (win0_12.rect t).emb (ix4 0 0 (i 2) 0) := by
    refine Eq.trans ?_ (emb_12 t (i 2)).symm
    funext a
    match a with
    | ⟨0, _⟩ => exact Fin.ext (by show (i 0).val = t.val / 16; omega)
    | ⟨1, _⟩ => exact Fin.ext (by show (i 1).val = t.val % 16; omega)
    | ⟨2, _⟩ => rfl
    | ⟨3, _⟩ => exact Fin.ext (Nat.lt_one_iff.mp (i 3).isLt)
  rw [hi]
  exact ((cfg0.win 12).blk t).view.emb_mem_set (ix4 0 0 (i 2) 0)

/-- The result array after the run. -/
theorem arr_eq : (dats m 0 c).arrAt 12 cfg0.N = final m c z :=
  Pipeline.Dat.arrAt_eq_of_cover _ _ _ (fun t _ => flushed_eq m c z hz t) cover

/-! ## The lines after the region -/

/-- What the lines after the region read of the result array. -/
theorem array_eq (n : Fin 2) (k : Fin 16) (r : Fin 8) :
    Pipeline.withArrays (cfgs 0).spec c (V0 m c) (fun w => (dats m 0 c).arrAt w (cfgs 0).N) (Proc.tc.devRef main_v61) (ix4 n k r 0)
      = (args m c).result (basis (centres m c)) z (mol k r) n :=
  (congrFun (Pipeline.withArrays_arr (cfgs 0).spec arrays_inj c (V0 m c) (fun w => (dats m 0 c).arrAt w (cfgs 0).N) 12) _).trans
    (congrFun (arr_eq m c z hz) (ix4 n k r 0))

/-- What the program returns: the result array's molecules by nets. -/
theorem tail_eq (b : Fin 128) (n : Fin 2) :
    Pipeline.afterTail₀ cfgs (dats m) 0 (V0 m) [hostOps1] c main_v64 (ix3 b n 0) = (args m c).result (basis (centres m c)) z b n := by
  have e := array_eq m c z hz n ⟨b.val / 8, by omega⟩ ⟨b.val % 8, by omega⟩
  rw [show mol ⟨b.val / 8, by omega⟩ ⟨b.val % 8, by omega⟩ = b from Fin.ext (by show b.val / 8 * 8 + b.val % 8 = b.val; omega)] at e
  refine Eq.trans ?_ e
  unfold Pipeline.afterTail₀
  after_reads_at

/-- The array returned. -/
theorem tail_value : Pipeline.afterTail₀ cfgs (dats m) 0 (V0 m) [hostOps1] c main_v64 = (args m c).value (basis (centres m c)) z := by
  refine funext fun (i : S128x2x1.Idx) => ?_
  obtain ⟨b, n, rfl⟩ : ∃ (b : Fin 128) (n : Fin 2), i = ix3 b n 0 :=
    ⟨i 0, i 1, funext fun a => match a with
      | ⟨0, _⟩ => rfl
      | ⟨1, _⟩ => rfl
      | ⟨2, _⟩ => Fin.ext (Nat.lt_one_iff.mp (i 2).isLt)⟩
  exact tail_eq m c z hz b n

end Cert.Proof.Array

end
-- ==== Proof.Centres.lean ====
/- Both programs compute the same evenly spaced centres. -/
module

public import proofs.«01_k».proof.Proof.Host
public import proofs.«01_k».proof.Proof.Gen.ReferenceIdeal.Read

@[expose] public section

set_option maxRecDepth 16384

noncomputable section

namespace Cert.Proof.Centres

open Idealize.ShloMosaic Idealize.ShloMosaic.TcCoe Cert.KernelIdeal Cert.KernelIdeal.Gen Cert.Proof.Host

variable (m : (ℓ : Loc nD τ sig) → Buf (Elt Ideal) ℓ) (c : Dev nD)

set_option maxHeartbeats 4000000 in
/-- The centres that the kernel's host operations leave are the reference's. -/
theorem centres_eq : centres m c = Cert.ReferenceIdeal.Read.val_main_v30 (F := Ideal) := by
  unfold centres V V0
  after_reads_simp
  rfl

end Cert.Proof.Centres

end
-- ==== Proof.Algebraic.lean ====
/- The kernel and the reference compute the same differences of energies. -/
module

public import proofs.«01_k».proof.Proof.Pre
public import proofs.«01_k».proof.Proof.Array
public import proofs.«01_k».proof.Proof.Centres
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem Cert.Proof.Spec Cert.Proof.Array Cert.Proof.Host

/-- The kernel's run ends with the differences of the energies that its arguments give, whatever the atomic numbers in range,
    and with its arguments unchanged. -/
theorem kernel_run (m : (ℓ : Loc Cert.KernelIdeal.nD Cert.KernelIdeal.τ Cert.KernelIdeal.sig) → Buf (Elt Ideal) ℓ)
    (g : Dev Cert.KernelIdeal.nD → PrngReg) (z : Dev Cert.KernelIdeal.nD → Fin 128 → Fin 32 → Fin 100)
    (hz : ∀ c b i, arg m c Cert.KernelIdeal.main_arg2 (ix2 b i) = BitVec.ofNat 32 (z c b i).val) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v64) = (args m c).value (basis (centres m c)) (z c)) :=
  (θ_run _ _ _).mono (fun _ h c =>
    ((h c).2 Cert.KernelIdeal.main_v64 (Pipeline.mem_restRefs_of Cert.KernelIdeal.main_v64 (by decide) (by decide))).trans (tail_value m c (z c) (hz c)))
    (Cert.KernelIdeal.Gen.run_main m g)

/-- What the reference returns, on arguments that are the kernel's. -/
theorem reference_value (m : (ℓ : Loc Cert.KernelIdeal.nD Cert.KernelIdeal.τ Cert.KernelIdeal.sig) → Buf (Elt Ideal) ℓ) (c : Dev Cert.KernelIdeal.nD)
    (z : Fin 128 → Fin 32 → Fin 100)
    (H : Reference.Admitted z (arg m c Cert.KernelIdeal.main_arg2) (arg m c Cert.KernelIdeal.main_arg5) (arg m c Cert.KernelIdeal.main_arg7)
      (arg m c Cert.KernelIdeal.main_arg10) (arg m c Cert.KernelIdeal.main_arg12) (arg m c Cert.KernelIdeal.main_arg14) (arg m c Cert.KernelIdeal.main_arg16))
    {x0 x1 : FVec Ideal Cert.ReferenceIdeal.S128x32x3 .f32} {x2 : IVec Cert.ReferenceIdeal.S128x32 32} {x3 : FVec Ideal Cert.ReferenceIdeal.S2x100x64 .f32}
    {x4 : FVec Ideal Cert.ReferenceIdeal.S2x2x25x64 .f32} {x5 x7 x10 x12 : FVec Ideal Cert.ReferenceIdeal.S2x2x64 .f32}
    {x6 x8 x9 x11 : FVec Ideal Cert.ReferenceIdeal.S2x2x64x64 .f32} {x13 : FVec Ideal Cert.ReferenceIdeal.S2x64x32 .f32}
    {x14 : FVec Ideal Cert.ReferenceIdeal.S2x32 .f32} {x15 : FVec Ideal Cert.ReferenceIdeal.S2x32x1 .f32} {x16 : FVec Ideal Cert.ReferenceIdeal.S2x1 .f32}
    (e0 : x0 = arg m c Cert.KernelIdeal.main_arg0) (e1 : x1 = arg m c Cert.KernelIdeal.main_arg1) (e2 : x2 = arg m c Cert.KernelIdeal.main_arg2)
    (e3 : x3 = arg m c Cert.KernelIdeal.main_arg3) (e4 : x4 = arg m c Cert.KernelIdeal.main_arg4) (e5 : x5 = arg m c Cert.KernelIdeal.main_arg5)
    (e6 : x6 = arg m c Cert.KernelIdeal.main_arg6) (e7 : x7 = arg m c Cert.KernelIdeal.main_arg7) (e8 : x8 = arg m c Cert.KernelIdeal.main_arg8)
    (e9 : x9 = arg m c Cert.KernelIdeal.main_arg9) (e10 : x10 = arg m c Cert.KernelIdeal.main_arg10) (e11 : x11 = arg m c Cert.KernelIdeal.main_arg11)
    (e12 : x12 = arg m c Cert.KernelIdeal.main_arg12) (e13 : x13 = arg m c Cert.KernelIdeal.main_arg13) (e14 : x14 = arg m c Cert.KernelIdeal.main_arg14)
    (e15 : x15 = arg m c Cert.KernelIdeal.main_arg15) (e16 : x16 = arg m c Cert.KernelIdeal.main_arg16) :
    Cert.ReferenceIdeal.Read.val_main_v202 (F := Ideal) x0 x1 x2 x3 x4 x5 x6 x7 x8 x9 x10 x11 x12 x13 x14 x15 x16 = (args m c).value (basis (centres m c)) z := by
  subst e0 e1 e2 e3 e4 e5 e6 e7 e8 e9 e10 e11 e12 e13 e14 e15 e16
  rw [Centres.centres_eq]
  exact Reference.value_eq (args m c) z _ _ _ _ _ _ _ H

/-- Over the extended reals the kernel and the reference return the same array, on arguments that the precondition admits. -/
theorem algebraic : Cert.algebraic_KernelIdeal_ReferenceIdeal_pre_admissible := by
  intro m g m' g' hpre hargs
  choose z H using fun c => Pre.admitted _ _ _ _ _ _ _ _ _ _ _ _ _ _ _ _ _ (hpre c)
  refine ⟨fun c => (args m c).value (basis (centres m c)) (z c),
    (θ_run _ _ _).mono (fun _ h c => ⟨h.1 c, h.2 c⟩) (θ_run_and (kernel_run m g z fun c => (H c).z) (Cert.KernelIdeal.Gen.unchanged m g)),
    (θ_run _ _ _).mono (fun _ h c => ⟨(h c).1.trans ?_, (h c).2⟩) (Cert.ReferenceIdeal.Value.run m' g')⟩
  refine (Cert.ReferenceIdeal.Read.val_main_v202_eq (StableHlo.launchContents m' c)).trans ?_
  obtain ⟨e0, e1, e2, e3, e4, e5, e6, e7, e8, e9, e10, e11, e12, e13, e14, e15, e16⟩ := hargs c
  exact reference_value m c (z c) (H c) e0 e1 e2 e3 e4 e5 e6 e7 e8 e9 e10 e11 e12 e13 e14 e15 e16

/-- The reference's run ends with its arguments unchanged; it has no semaphore. -/
theorem reference_frame : Cert.quiescent_ReferenceIdeal := fun m g _ =>
  (θ_run _ _ _).mono (fun _ h => ⟨fun c => (h c).2, sem_eq_zero_of_no_sems rfl _⟩) (Cert.ReferenceIdeal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic

/-- All the claims: kernel, ideal kernel and reference run, keep their arguments and leave no semaphore raised; the ideal
    kernel's constant is the logarithm of two, which the printed word rounds; and the ideal kernel and the reference return
    the same array, on arguments that the precondition admits. -/
theorem claim : Cert.Claim :=
  ⟨Cert.Kernel.Gen.facts, Cert.KernelIdeal.Gen.facts, Cert.ReferenceIdeal.Gen.facts, Pre.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "log2" .f32 0x3F317218#32 ((Real.log 2 : ℝ) : EReal) rfl,
    algebraic⟩

end Cert.Proof

end
